-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_own_scores_moderate [hPre_own_scores_moderate : Cert.Pre_own_scores_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_own_scores_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_scores_moderate [hPre_own_scores_moderate : Cert.Pre_own_scores_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_scores_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_own_scores_moderate [hKernelIdeal : Cert.KernelIdeal.Facts] [hPre_own_scores_moderate : Cert.Pre_own_scores_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_own_scores_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_own_scores_moderate [hReferenceIdeal : Cert.ReferenceIdeal.Facts] [hPre_own_scores_moderate : Cert.Pre_own_scores_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_scores_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "s" .f32 0x3DB504F3#32 (((Real.sqrt 128)⁻¹ : ℝ) : EReal)
  ∧ IdealRules.named_const.Statement Cert.KernelIdeal.κ "s2" .f32 0x3E0293EE#32 (((Real.sqrt 128)⁻¹ * (Real.log 2)⁻¹ : ℝ) : EReal)

def algebraic_KernelIdeal_ReferenceIdeal_pre_own_scores_moderate [hKernelIdeal : Cert.KernelIdeal.Facts] [hReferenceIdeal : Cert.ReferenceIdeal.Facts] [hPre_own_scores_moderate : Cert.Pre_own_scores_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_own_scores_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_own_scores_moderate : Cert.Pre_own_scores_moderate.Facts),
    quiescent_Kernel (hKernel := hKernel)
    ∧ quiescent_KernelIdeal (hKernelIdeal := hKernelIdeal)
    ∧ quiescent_KernelIdeal_pre_own_scores_moderate (hKernelIdeal := hKernelIdeal) (hPre_own_scores_moderate := hPre_own_scores_moderate)
    ∧ quiescent_ReferenceIdeal (hReferenceIdeal := hReferenceIdeal)
    ∧ quiescent_ReferenceIdeal_pre_own_scores_moderate (hReferenceIdeal := hReferenceIdeal) (hPre_own_scores_moderate := hPre_own_scores_moderate)
    ∧ preserves_Kernel_KernelIdeal
    ∧ algebraic_KernelIdeal_ReferenceIdeal_pre_own_scores_moderate (hKernelIdeal := hKernelIdeal) (hReferenceIdeal := hReferenceIdeal) (hPre_own_scores_moderate := hPre_own_scores_moderate)
-- ==== Pre_own_scores_moderate.lean ====
abbrev S1x2048x16x128 : Shape := ⟨4, ![1, 2048, 16, 128]⟩
abbrev S1x2048x4x128 : Shape := ⟨4, ![1, 2048, 4, 128]⟩
abbrev S32 : Shape := ⟨1, ![32]⟩
abbrev S32x128 : Shape := ⟨2, ![32, 128]⟩
abbrev S128x3 : Shape := ⟨2, ![128, 3]⟩
abbrev S1x2048x4x4x128 : Shape := ⟨5, ![1, 2048, 4, 4, 128]⟩
abbrev S_ : Shape := ⟨0, ![]⟩
abbrev S1x2048x16 : Shape := ⟨3, ![1, 2048, 16]⟩

class Facts : Prop where
  bcast_S1x2048x4x128_S1x2048x4x4x128_0_1_2_4 : S1x2048x4x128.BroadcastsInDim S1x2048x4x4x128 (![0, 1, 2, 4] : Fin 4 → Fin S1x2048x4x4x128.rank)
  shapeCasts_S1x2048x4x4x128_S1x2048x16x128 : S1x2048x4x4x128.ShapeCasts S1x2048x16x128
  reducesTo_S1x2048x16x128_S1x2048x16_d3 : S1x2048x16x128.ReducesTo [3] S1x2048x16
  h_S_ : 0 < S_.numel
  bcast_S_S1x2048x16 : S_.BroadcastsInDim S1x2048x16 (![] : Fin 0 → Fin S1x2048x16.rank)

variable [Facts]

def fn {F : FTy → Type} [FloatOps F] (main_arg0 : FVec F S1x2048x16x128 .f32) (main_arg1 : FVec F S1x2048x4x128 .f32) (main_arg2 : FVec F S1x2048x4x128 .f32) (main_arg3 : FVec F S32 .f32) (main_arg4 : FVec F S32 .f32) (main_arg5 : FVec F S32x128 .f32) (main_arg6 : FVec F S32x128 .f32) (main_arg7 : FVec F S128x3 .f32) : IVec S1x2048x16 1 :=
  let main_v0 : FVec F S1x2048x4x4x128 .f32 := broadcastInDim S1x2048x4x4x128 ![0, 1, 2, 4] bcast_S1x2048x4x128_S1x2048x4x4x128_0_1_2_4 main_arg1
  let main_v1 : FVec F S1x2048x16x128 .f32 := shapeCast S1x2048x16x128 main_v0 shapeCasts_S1x2048x4x4x128_S1x2048x16x128
  let main_v2 : FVec F S1x2048x16x128 .f32 := mulf main_arg0 main_v1
  let main_cst : FVec F S_ .f32 := constant S_ .f32 0x00000000#32
  let main_v3 : FVec F S1x2048x16 .f32 := (fun x v => Host.reduceAdd x v reducesTo_S1x2048x16x128_S1x2048x16_d3 h_S_) main_v2 main_cst
  let main_cst_0 : FVec F S_ .f32 := constant S_ .f32 0xC4000000#32
  let main_v4 : FVec F S1x2048x16 .f32 := broadcastInDim S1x2048x16 ![] bcast_S_S1x2048x16 main_cst_0
  let main_v5 : IVec S1x2048x16 1 := cmpf .oge main_v3 main_v4
  main_v5
-- ==== Kernel.lean ====
abbrev S1x2048x16x128 : Shape := ⟨4, ![1, 2048, 16, 128]⟩
abbrev S1x2048x4x128 : Shape := ⟨4, ![1, 2048, 4, 128]⟩
abbrev S32 : Shape := ⟨1, ![32]⟩
abbrev S32x128 : Shape := ⟨2, ![32, 128]⟩
abbrev S128x3 : Shape := ⟨2, ![128, 3]⟩
abbrev S2048x16x128 : Shape := ⟨3, ![2048, 16, 128]⟩
abbrev S2048x4x4x128 : Shape := ⟨4, ![2048, 4, 4, 128]⟩
abbrev S4x4x2048x128 : Shape := ⟨4, ![4, 4, 2048, 128]⟩
abbrev S2048x4x128 : Shape := ⟨3, ![2048, 4, 128]⟩
abbrev S4x2048x128 : Shape := ⟨3, ![4, 2048, 128]⟩
abbrev S16x128 : Shape := ⟨2, ![16, 128]⟩
abbrev S1x16x1x128 : Shape := ⟨4, ![1, 16, 1, 128]⟩
abbrev S128x16x1x128 : Shape := ⟨4, ![128, 16, 1, 128]⟩
abbrev S2048x128 : Shape := ⟨2, ![2048, 128]⟩
abbrev S1x2048x128 : Shape := ⟨3, ![1, 2048, 128]⟩
abbrev S16 : Shape := ⟨1, ![16]⟩
abbrev S2048 : Shape := ⟨1, ![2048]⟩
abbrev S1x2048 : Shape := ⟨2, ![1, 2048]⟩
abbrev S127 : Shape := ⟨1, ![127]⟩
abbrev S127x1 : Shape := ⟨2, ![127, 1]⟩
abbrev S_ : Shape := ⟨0, ![]⟩
abbrev S127x2048 : Shape := ⟨2, ![127, 2048]⟩
abbrev S127x2048x1 : Shape := ⟨3, ![127, 2048, 1]⟩
abbrev S128x2048 : Shape := ⟨2, ![128, 2048]⟩
abbrev S8x128 : Shape := ⟨2, ![8, 128]⟩
abbrev S1 : Shape := ⟨1, ![1]⟩
abbrev S2 : Shape := ⟨1, ![2]⟩
abbrev S128x8 : Shape := ⟨2, ![128, 8]⟩
abbrev S2048x1 : Shape := ⟨2, ![2048, 1]⟩
abbrev S1x32 : Shape := ⟨2, ![1, 32]⟩
abbrev S2048x32 : Shape := ⟨2, ![2048, 32]⟩
abbrev S128 : Shape := ⟨1, ![128]⟩
abbrev S1x128 : Shape := ⟨2, ![1, 128]⟩
abbrev S32x1 : Shape := ⟨2, ![32, 1]⟩
abbrev S4x4x128x2048 : Shape := ⟨4, ![4, 4, 128, 2048]⟩
abbrev S1x4x512x128 : Shape := ⟨4, ![1, 4, 512, 128]⟩
abbrev S1x1x128x2048 : Shape := ⟨4, ![1, 1, 128, 2048]⟩
abbrev S128x128 : Shape := ⟨2, ![128, 128]⟩
abbrev S1x1 : Shape := ⟨2, ![1, 1]⟩
abbrev S4x512x128 : Shape := ⟨3, ![4, 512, 128]⟩
abbrev S128x1 : Shape := ⟨2, ![128, 1]⟩
abbrev S128x512 : Shape := ⟨2, ![128, 512]⟩
abbrev S32x512 : Shape := ⟨2, ![32, 512]⟩
abbrev S1x512 : Shape := ⟨2, ![1, 512]⟩
abbrev S512 : Shape := ⟨1, ![512]⟩
abbrev S32x2048 : Shape := ⟨2, ![32, 2048]⟩
abbrev S1x512x128 : Shape := ⟨3, ![1, 512, 128]⟩
abbrev S512x128 : Shape := ⟨2, ![512, 128]⟩
abbrev S512x2048 : Shape := ⟨2, ![512, 2048]⟩
abbrev S512x32 : Shape := ⟨2, ![512, 32]⟩
abbrev S512x1 : Shape := ⟨2, ![512, 1]⟩
abbrev S8x2048 : Shape := ⟨2, ![8, 2048]⟩

abbrev nBuf : Space → Nat
  | .hbm => 312
  | .vmem => 26
  | .smem => 0
  | _ => 0

abbrev hbmTy0_0 (i : Nat) : BufTy := match i % 128 with
  | 0 => ⟨S1x2048x16x128, .f32⟩
  | 1 => ⟨S1x2048x4x128, .f32⟩
  | 2 => ⟨S1x2048x4x128, .f32⟩
  | 3 => ⟨S32, .f32⟩
  | 4 => ⟨S32, .f32⟩
  | 5 => ⟨S32x128, .f32⟩
  | 6 => ⟨S32x128, .f32⟩
  | 7 => ⟨S128x3, .f32⟩
  | 8 => ⟨S2048x16x128, .f32⟩
  | 9 => ⟨S2048x4x4x128, .f32⟩
  | 10 => ⟨S4x4x2048x128, .f32⟩
  | 11 => ⟨S2048x4x128, .f32⟩
  | 12 => ⟨S4x2048x128, .f32⟩
  | 13 => ⟨S2048x4x128, .f32⟩
  | 14 => ⟨S4x2048x128, .f32⟩
  | 15 => ⟨S4x2048x128, .bf16⟩
  | 16 => ⟨S4x2048x128, .bf16⟩
  | 17 => ⟨S16x128, .f32⟩
  | 18 => ⟨S1x16x1x128, .f32⟩
  | 19 => ⟨S128x16x1x128, .f32⟩
  | 20 => ⟨S2048x128, .f32⟩
  | 21 => ⟨S16x128, .f32⟩
  | 22 => ⟨S1x16x1x128, .f32⟩
  | 23 => ⟨S128x16x1x128, .f32⟩
  | 24 => ⟨S2048x128, .f32⟩
  | 25 => ⟨S16x128, .f32⟩
  | 26 => ⟨S1x16x1x128, .f32⟩
  | 27 => ⟨S128x16x1x128, .f32⟩
  | 28 => ⟨S2048x128, .f32⟩
  | 29 => ⟨S16x128, .f32⟩
  | 30 => ⟨S1x16x1x128, .f32⟩
  | 31 => ⟨S128x16x1x128, .f32⟩
  | 32 => ⟨S2048x128, .f32⟩
  | 33 => ⟨S1x2048x128, .f32⟩
  | 34 => ⟨S4x2048x128, .f32⟩
  | 35 => ⟨S4x2048x128, .f32⟩
  | 36 => ⟨S4x2048x128, .bf16⟩
  | 37 => ⟨S1x2048x128, .f32⟩
  | 38 => ⟨S4x2048x128, .f32⟩
  | 39 => ⟨S4x2048x128, .f32⟩
  | 40 => ⟨S4x2048x128, .bf16⟩
  | 41 => ⟨S1x2048x128, .f32⟩
  | 42 => ⟨S4x2048x128, .f32⟩
  | 43 => ⟨S4x2048x128, .f32⟩
  | 44 => ⟨S4x2048x128, .bf16⟩
  | 45 => ⟨S1x2048x128, .f32⟩
  | 46 => ⟨S4x2048x128, .f32⟩
  | 47 => ⟨S4x2048x128, .f32⟩
  | 48 => ⟨S4x2048x128, .bf16⟩
  | 49 => ⟨S16, .f32⟩
  | 50 => ⟨S2048, .i32⟩
  | 51 => ⟨S1x2048, .i32⟩
  | 52 => ⟨S127, .i32⟩
  | 53 => ⟨S127x1, .i32⟩
  | 54 => ⟨S_, .i32⟩
  | 55 => ⟨S127x1, .i32⟩
  | 56 => ⟨S127x1, .i32⟩
  | 57 => ⟨S127x2048, .i32⟩
  | 58 => ⟨S127x2048, .i32⟩
  | 59 => ⟨S127x2048, .i32⟩
  | 60 => ⟨S_, .i32⟩
  | 61 => ⟨S127x2048, .i32⟩
  | 62 => ⟨S127x2048, .i32⟩
  | 63 => ⟨S_, .i32⟩
  | 64 => ⟨S127x2048, .i32⟩
  | 65 => ⟨S127x2048, .i1⟩
  | 66 => ⟨S_, .i32⟩
  | 67 => ⟨S127x2048, .i32⟩
  | 68 => ⟨S127x2048, .i1⟩
  | 69 => ⟨S127x2048, .i1⟩
  | 70 => ⟨S_, .i32⟩
  | 71 => ⟨S_, .i32⟩
  | 72 => ⟨S_, .i32⟩
  | 73 => ⟨S127x2048, .i32⟩
  | 74 => ⟨S127x2048, .i32⟩
  | 75 => ⟨S_, .i32⟩
  | 76 => ⟨S127x2048, .i32⟩
  | 77 => ⟨S127x2048, .i32⟩
  | 78 => ⟨S_, .i32⟩
  | 79 => ⟨S127x2048, .i32⟩
  | 80 => ⟨S127x2048, .i1⟩
  | 81 => ⟨S_, .i32⟩
  | 82 => ⟨S127x2048, .i32⟩
  | 83 => ⟨S127x2048, .i32⟩
  | 84 => ⟨S127x2048, .i32⟩
  | 85 => ⟨S127x2048x1, .i32⟩
  | 86 => ⟨S127x2048, .f32⟩
  | 87 => ⟨S_, .f32⟩
  | 88 => ⟨S_, .f32⟩
  | 89 => ⟨S127x2048, .f32⟩
  | 90 => ⟨S127x2048, .f32⟩
  | 91 => ⟨S_, .i32⟩
  | 92 => ⟨S_, .f32⟩
  | 93 => ⟨S128x2048, .f32⟩
  | 94 => ⟨S128x2048, .bf16⟩
  | 95 => ⟨S16, .f32⟩
  | 96 => ⟨S2048, .i32⟩
  | 97 => ⟨S1x2048, .i32⟩
  | 98 => ⟨S127, .i32⟩
  | 99 => ⟨S127x1, .i32⟩
  | 100 => ⟨S_, .i32⟩
  | 101 => ⟨S127x1, .i32⟩
  | 102 => ⟨S127x1, .i32⟩
  | 103 => ⟨S127x2048, .i32⟩
  | 104 => ⟨S127x2048, .i32⟩
  | 105 => ⟨S127x2048, .i32⟩
  | 106 => ⟨S_, .i32⟩
  | 107 => ⟨S127x2048, .i32⟩
  | 108 => ⟨S127x2048, .i32⟩
  | 109 => ⟨S_, .i32⟩
  | 110 => ⟨S127x2048, .i32⟩
  | 111 => ⟨S127x2048, .i1⟩
  | 112 => ⟨S_, .i32⟩
  | 113 => ⟨S127x2048, .i32⟩
  | 114 => ⟨S127x2048, .i1⟩
  | 115 => ⟨S127x2048, .i1⟩
  | 116 => ⟨S_, .i32⟩
  | 117 => ⟨S_, .i32⟩
  | 118 => ⟨S_, .i32⟩
  | 119 => ⟨S127x2048, .i32⟩
  | 120 => ⟨S127x2048, .i32⟩
  | 121 => ⟨S_, .i32⟩
  | 122 => ⟨S127x2048, .i32⟩
  | 123 => ⟨S127x2048, .i32⟩
  | 124 => ⟨S_, .i32⟩
  | 125 => ⟨S127x2048, .i32⟩
  | 126 => ⟨S127x2048, .i1⟩
  | 127 => ⟨S_, .i32⟩
  | _ => ⟨S1x2048x16x128, .f32⟩

abbrev hbmTy0_1 (i : Nat) : BufTy := match i % 128 with
  | 0 => ⟨S127x2048, .i32⟩
  | 1 => ⟨S127x2048, .i32⟩
  | 2 => ⟨S127x2048, .i32⟩
  | 3 => ⟨S127x2048x1, .i32⟩
  | 4 => ⟨S127x2048, .f32⟩
  | 5 => ⟨S_, .f32⟩
  | 6 => ⟨S_, .f32⟩
  | 7 => ⟨S127x2048, .f32⟩
  | 8 => ⟨S127x2048, .f32⟩
  | 9 => ⟨S_, .i32⟩
  | 10 => ⟨S_, .f32⟩
  | 11 => ⟨S128x2048, .f32⟩
  | 12 => ⟨S128x2048, .bf16⟩
  | 13 => ⟨S16, .f32⟩
  | 14 => ⟨S2048, .i32⟩
  | 15 => ⟨S1x2048, .i32⟩
  | 16 => ⟨S127, .i32⟩
  | 17 => ⟨S127x1, .i32⟩
  | 18 => ⟨S_, .i32⟩
  | 19 => ⟨S127x1, .i32⟩
  | 20 => ⟨S127x1, .i32⟩
  | 21 => ⟨S127x2048, .i32⟩
  | 22 => ⟨S127x2048, .i32⟩
  | 23 => ⟨S127x2048, .i32⟩
  | 24 => ⟨S_, .i32⟩
  | 25 => ⟨S127x2048, .i32⟩
  | 26 => ⟨S127x2048, .i32⟩
  | 27 => ⟨S_, .i32⟩
  | 28 => ⟨S127x2048, .i32⟩
  | 29 => ⟨S127x2048, .i1⟩
  | 30 => ⟨S_, .i32⟩
  | 31 => ⟨S127x2048, .i32⟩
  | 32 => ⟨S127x2048, .i1⟩
  | 33 => ⟨S127x2048, .i1⟩
  | 34 => ⟨S_, .i32⟩
  | 35 => ⟨S_, .i32⟩
  | 36 => ⟨S_, .i32⟩
  | 37 => ⟨S127x2048, .i32⟩
  | 38 => ⟨S127x2048, .i32⟩
  | 39 => ⟨S_, .i32⟩
  | 40 => ⟨S127x2048, .i32⟩
  | 41 => ⟨S127x2048, .i32⟩
  | 42 => ⟨S_, .i32⟩
  | 43 => ⟨S127x2048, .i32⟩
  | 44 => ⟨S127x2048, .i1⟩
  | 45 => ⟨S_, .i32⟩
  | 46 => ⟨S127x2048, .i32⟩
  | 47 => ⟨S127x2048, .i32⟩
  | 48 => ⟨S127x2048, .i32⟩
  | 49 => ⟨S127x2048x1, .i32⟩
  | 50 => ⟨S127x2048, .f32⟩
  | 51 => ⟨S_, .f32⟩
  | 52 => ⟨S_, .f32⟩
  | 53 => ⟨S127x2048, .f32⟩
  | 54 => ⟨S127x2048, .f32⟩
  | 55 => ⟨S_, .i32⟩
  | 56 => ⟨S_, .f32⟩
  | 57 => ⟨S128x2048, .f32⟩
  | 58 => ⟨S128x2048, .bf16⟩
  | 59 => ⟨S16, .f32⟩
  | 60 => ⟨S2048, .i32⟩
  | 61 => ⟨S1x2048, .i32⟩
  | 62 => ⟨S127, .i32⟩
  | 63 => ⟨S127x1, .i32⟩
  | 64 => ⟨S_, .i32⟩
  | 65 => ⟨S127x1, .i32⟩
  | 66 => ⟨S127x1, .i32⟩
  | 67 => ⟨S127x2048, .i32⟩
  | 68 => ⟨S127x2048, .i32⟩
  | 69 => ⟨S127x2048, .i32⟩
  | 70 => ⟨S_, .i32⟩
  | 71 => ⟨S127x2048, .i32⟩
  | 72 => ⟨S127x2048, .i32⟩
  | 73 => ⟨S_, .i32⟩
  | 74 => ⟨S127x2048, .i32⟩
  | 75 => ⟨S127x2048, .i1⟩
  | 76 => ⟨S_, .i32⟩
  | 77 => ⟨S127x2048, .i32⟩
  | 78 => ⟨S127x2048, .i1⟩
  | 79 => ⟨S127x2048, .i1⟩
  | 80 => ⟨S_, .i32⟩
  | 81 => ⟨S_, .i32⟩
  | 82 => ⟨S_, .i32⟩
  | 83 => ⟨S127x2048, .i32⟩
  | 84 => ⟨S127x2048, .i32⟩
  | 85 => ⟨S_, .i32⟩
  | 86 => ⟨S127x2048, .i32⟩
  | 87 => ⟨S127x2048, .i32⟩
  | 88 => ⟨S_, .i32⟩
  | 89 => ⟨S127x2048, .i32⟩
  | 90 => ⟨S127x2048, .i1⟩
  | 91 => ⟨S_, .i32⟩
  | 92 => ⟨S127x2048, .i32⟩
  | 93 => ⟨S127x2048, .i32⟩
  | 94 => ⟨S127x2048, .i32⟩
  | 95 => ⟨S127x2048x1, .i32⟩
  | 96 => ⟨S127x2048, .f32⟩
  | 97 => ⟨S_, .f32⟩
  | 98 => ⟨S_, .f32⟩
  | 99 => ⟨S127x2048, .f32⟩
  | 100 => ⟨S127x2048, .f32⟩
  | 101 => ⟨S_, .i32⟩
  | 102 => ⟨S_, .f32⟩
  | 103 => ⟨S128x2048, .f32⟩
  | 104 => ⟨S128x2048, .bf16⟩
  | 105 => ⟨S_, .f32⟩
  | 106 => ⟨S8x128, .f32⟩
  | 107 => ⟨S_, .f32⟩
  | 108 => ⟨S_, .f32⟩
  | 109 => ⟨S_, .f32⟩
  | 110 => ⟨S_, .f32⟩
  | 111 => ⟨S_, .i32⟩
  | 112 => ⟨S1, .i32⟩
  | 113 => ⟨S_, .i32⟩
  | 114 => ⟨S1, .i32⟩
  | 115 => ⟨S2, .i32⟩
  | 116 => ⟨S8x128, .f32⟩
  | 117 => ⟨S_, .f32⟩
  | 118 => ⟨S_, .f32⟩
  | 119 => ⟨S_, .f32⟩
  | 120 => ⟨S_, .f32⟩
  | 121 => ⟨S_, .i32⟩
  | 122 => ⟨S1, .i32⟩
  | 123 => ⟨S_, .i32⟩
  | 124 => ⟨S1, .i32⟩
  | 125 => ⟨S2, .i32⟩
  | 126 => ⟨S8x128, .f32⟩
  | 127 => ⟨S_, .i32⟩
  | _ => ⟨S1x2048x16x128, .f32⟩

abbrev hbmTy0_2 (i : Nat) : BufTy := match i % 128 with
  | 0 => ⟨S_, .f32⟩
  | 1 => ⟨S128x8, .f32⟩
  | 2 => ⟨S128x8, .bf16⟩
  | 3 => ⟨S2048, .i32⟩
  | 4 => ⟨S2048x1, .i32⟩
  | 5 => ⟨S_, .i32⟩
  | 6 => ⟨S_, .i32⟩
  | 7 => ⟨S2048x1, .i32⟩
  | 8 => ⟨S2048x1, .i32⟩
  | 9 => ⟨S2048x1, .i32⟩
  | 10 => ⟨S_, .i32⟩
  | 11 => ⟨S2048x1, .i32⟩
  | 12 => ⟨S2048x1, .i1⟩
  | 13 => ⟨S2048x1, .i32⟩
  | 14 => ⟨S2048x1, .i32⟩
  | 15 => ⟨S_, .i32⟩
  | 16 => ⟨S2048x1, .i32⟩
  | 17 => ⟨S2048x1, .i1⟩
  | 18 => ⟨S2048x1, .i1⟩
  | 19 => ⟨S_, .i32⟩
  | 20 => ⟨S2048x1, .i32⟩
  | 21 => ⟨S2048x1, .i32⟩
  | 22 => ⟨S2048x1, .i32⟩
  | 23 => ⟨S32, .i32⟩
  | 24 => ⟨S1x32, .i32⟩
  | 25 => ⟨S2048x32, .i32⟩
  | 26 => ⟨S2048x32, .i32⟩
  | 27 => ⟨S2048x32, .i1⟩
  | 28 => ⟨S2048x32, .bf16⟩
  | 29 => ⟨S128, .i32⟩
  | 30 => ⟨S1x128, .i32⟩
  | 31 => ⟨S_, .i32⟩
  | 32 => ⟨S_, .i32⟩
  | 33 => ⟨S1x128, .i32⟩
  | 34 => ⟨S1x128, .i32⟩
  | 35 => ⟨S1x128, .i32⟩
  | 36 => ⟨S_, .i32⟩
  | 37 => ⟨S1x128, .i32⟩
  | 38 => ⟨S1x128, .i1⟩
  | 39 => ⟨S1x128, .i32⟩
  | 40 => ⟨S1x128, .i32⟩
  | 41 => ⟨S_, .i32⟩
  | 42 => ⟨S1x128, .i32⟩
  | 43 => ⟨S1x128, .i1⟩
  | 44 => ⟨S1x128, .i1⟩
  | 45 => ⟨S_, .i32⟩
  | 46 => ⟨S1x128, .i32⟩
  | 47 => ⟨S1x128, .i32⟩
  | 48 => ⟨S1x128, .i32⟩
  | 49 => ⟨S32, .i32⟩
  | 50 => ⟨S32x1, .i32⟩
  | 51 => ⟨S32x128, .i32⟩
  | 52 => ⟨S32x128, .i32⟩
  | 53 => ⟨S32x128, .i1⟩
  | 54 => ⟨S32x128, .f32⟩
  | 55 => ⟨S4x4x128x2048, .f32⟩
  | _ => ⟨S1x2048x16x128, .f32⟩

abbrev hbmTy (i : Nat) : BufTy := match i / 128 with
  | 0 => hbmTy0_0 i
  | 1 => hbmTy0_1 i
  | 2 => hbmTy0_2 i
  | _ => ⟨S1x2048x16x128, .f32⟩

abbrev bufTy : (tb : Table) → Fin (tcTables nBuf tb) → BufTy
  | .hbm, ⟨i, _⟩ => hbmTy i
  | .local _ .vmem, ⟨0, _⟩ => ⟨S1x4x512x128, .f32⟩
  | .local _ .vmem, ⟨1, _⟩ => ⟨S1x4x512x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S8x128, .f32⟩
  | .local _ .vmem, ⟨19, _⟩ => ⟨S128x8, .bf16⟩
  | .local _ .vmem, ⟨20, _⟩ => ⟨S2048x32, .bf16⟩
  | .local _ .vmem, ⟨21, _⟩ => ⟨S32x128, .f32⟩
  | .local _ .vmem, ⟨22, _⟩ => ⟨S1x1x128x2048, .f32⟩
  | .local _ .vmem, ⟨23, _⟩ => ⟨S1x1x128x2048, .f32⟩
  | .local _ .vmem, ⟨24, _⟩ => ⟨S128x128, .bf16⟩
  | .local _ .vmem, ⟨25, _⟩ => ⟨S128x128, .bf16⟩
  | _, _ => ⟨S1x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_call0_v32 : Ref sig .tc := ⟨.hbm, 40, rfl⟩
abbrev main_call0_v33 : Ref sig .tc := ⟨.hbm, 41, rfl⟩
abbrev main_call0_v34 : Ref sig .tc := ⟨.hbm, 42, rfl⟩
abbrev main_call0_v35 : Ref sig .tc := ⟨.hbm, 43, rfl⟩
abbrev main_call0_v36 : Ref sig .tc := ⟨.hbm, 44, rfl⟩
abbrev main_call0_v37 : Ref sig .tc := ⟨.hbm, 45, rfl⟩
abbrev main_call0_v38 : Ref sig .tc := ⟨.hbm, 46, rfl⟩
abbrev main_call0_v39 : Ref sig .tc := ⟨.hbm, 47, rfl⟩
abbrev main_call0_v40 : Ref sig .tc := ⟨.hbm, 48, rfl⟩
abbrev main_call0_v41 : Ref sig .tc := ⟨.hbm, 49, rfl⟩
abbrev main_call0_v42 : Ref sig .tc := ⟨.hbm, 50, rfl⟩
abbrev main_call0_v43 : Ref sig .tc := ⟨.hbm, 51, rfl⟩
abbrev main_call0_v44 : Ref sig .tc := ⟨.hbm, 52, rfl⟩
abbrev main_call0_v45 : Ref sig .tc := ⟨.hbm, 53, rfl⟩
abbrev main_call0_c : Ref sig .tc := ⟨.hbm, 54, rfl⟩
abbrev main_call0_v46 : Ref sig .tc := ⟨.hbm, 55, rfl⟩
abbrev main_call0_v47 : Ref sig .tc := ⟨.hbm, 56, rfl⟩
abbrev main_call0_v48 : Ref sig .tc := ⟨.hbm, 57, rfl⟩
abbrev main_call0_v49 : Ref sig .tc := ⟨.hbm, 58, rfl⟩
abbrev main_call0_v50 : Ref sig .tc := ⟨.hbm, 59, rfl⟩
abbrev main_call0_c_0 : Ref sig .tc := ⟨.hbm, 60, rfl⟩
abbrev main_call0_v51 : Ref sig .tc := ⟨.hbm, 61, rfl⟩
abbrev main_call0_v52 : Ref sig .tc := ⟨.hbm, 62, rfl⟩
abbrev main_call0_c_1 : Ref sig .tc := ⟨.hbm, 63, rfl⟩
abbrev main_call0_v53 : Ref sig .tc := ⟨.hbm, 64, rfl⟩
abbrev main_call0_v54 : Ref sig .tc := ⟨.hbm, 65, rfl⟩
abbrev main_call0_c_2 : Ref sig .tc := ⟨.hbm, 66, rfl⟩
abbrev main_call0_v55 : Ref sig .tc := ⟨.hbm, 67, rfl⟩
abbrev main_call0_v56 : Ref sig .tc := ⟨.hbm, 68, rfl⟩
abbrev main_call0_v57 : Ref sig .tc := ⟨.hbm, 69, rfl⟩
abbrev main_call0_c_3 : Ref sig .tc := ⟨.hbm, 70, rfl⟩
abbrev main_call0_c_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_v58 : Ref sig .tc := ⟨.hbm, 77, rfl⟩
abbrev main_call0_c_5 : Ref sig .tc := ⟨.hbm, 78, rfl⟩
abbrev main_call0_v59 : Ref sig .tc := ⟨.hbm, 79, rfl⟩
abbrev main_call0_v60 : Ref sig .tc := ⟨.hbm, 80, rfl⟩
abbrev main_call0_c_6 : Ref sig .tc := ⟨.hbm, 81, rfl⟩
abbrev main_call0_v61 : Ref sig .tc := ⟨.hbm, 82, rfl⟩
abbrev main_call0_v62 : Ref sig .tc := ⟨.hbm, 83, rfl⟩
abbrev main_call0_v63 : Ref sig .tc := ⟨.hbm, 84, rfl⟩
abbrev main_call0_v64 : Ref sig .tc := ⟨.hbm, 85, rfl⟩
abbrev main_call0_v65 : Ref sig .tc := ⟨.hbm, 86, rfl⟩
abbrev main_call0_cst : Ref sig .tc := ⟨.hbm, 87, rfl⟩
abbrev main_call0_call1_v0 : Ref sig .tc := ⟨.hbm, 88, rfl⟩
abbrev main_call0_call1_v1 : Ref sig .tc := ⟨.hbm, 89, rfl⟩
abbrev main_call0_v66 : Ref sig .tc := ⟨.hbm, 90, rfl⟩
abbrev main_call0_c_7 : Ref sig .tc := ⟨.hbm, 91, rfl⟩
abbrev main_call0_call2_v0 : Ref sig .tc := ⟨.hbm, 92, rfl⟩
abbrev main_call0_v67 : Ref sig .tc := ⟨.hbm, 93, rfl⟩
abbrev main_call0_v68 : Ref sig .tc := ⟨.hbm, 94, rfl⟩
abbrev main_call0_v69 : Ref sig .tc := ⟨.hbm, 95, rfl⟩
abbrev main_call0_v70 : Ref sig .tc := ⟨.hbm, 96, rfl⟩
abbrev main_call0_v71 : Ref sig .tc := ⟨.hbm, 97, rfl⟩
abbrev main_call0_v72 : Ref sig .tc := ⟨.hbm, 98, rfl⟩
abbrev main_call0_v73 : Ref sig .tc := ⟨.hbm, 99, rfl⟩
abbrev main_call0_c_8 : Ref sig .tc := ⟨.hbm, 100, rfl⟩
abbrev main_call0_v74 : Ref sig .tc := ⟨.hbm, 101, rfl⟩
abbrev main_call0_v75 : Ref sig .tc := ⟨.hbm, 102, rfl⟩
abbrev main_call0_v76 : Ref sig .tc := ⟨.hbm, 103, rfl⟩
abbrev main_call0_v77 : Ref sig .tc := ⟨.hbm, 104, rfl⟩
abbrev main_call0_v78 : Ref sig .tc := ⟨.hbm, 105, rfl⟩
abbrev main_call0_c_9 : Ref sig .tc := ⟨.hbm, 106, rfl⟩
abbrev main_call0_v79 : Ref sig .tc := ⟨.hbm, 107, rfl⟩
abbrev main_call0_v80 : Ref sig .tc := ⟨.hbm, 108, rfl⟩
abbrev main_call0_c_10 : Ref sig .tc := ⟨.hbm, 109, rfl⟩
abbrev main_call0_v81 : Ref sig .tc := ⟨.hbm, 110, rfl⟩
abbrev main_call0_v82 : Ref sig .tc := ⟨.hbm, 111, rfl⟩
abbrev main_call0_c_11 : Ref sig .tc := ⟨.hbm, 112, rfl⟩
abbrev main_call0_v83 : Ref sig .tc := ⟨.hbm, 113, rfl⟩
abbrev main_call0_v84 : Ref sig .tc := ⟨.hbm, 114, rfl⟩
abbrev main_call0_v85 : Ref sig .tc := ⟨.hbm, 115, rfl⟩
abbrev main_call0_c_12 : Ref sig .tc := ⟨.hbm, 116, rfl⟩
abbrev main_call0_c_13 : Ref sig .tc := ⟨.hbm, 117, rfl⟩
abbrev main_call0_call3_v0 : Ref sig .tc := ⟨.hbm, 118, rfl⟩
abbrev main_call0_call3_v1 : Ref sig .tc := ⟨.hbm, 119, rfl⟩
abbrev main_call0_call3_v2 : Ref sig .tc := ⟨.hbm, 120, rfl⟩
abbrev main_call0_call3_v3 : Ref sig .tc := ⟨.hbm, 121, rfl⟩
abbrev main_call0_call3_v4 : Ref sig .tc := ⟨.hbm, 122, rfl⟩
abbrev main_call0_v86 : Ref sig .tc := ⟨.hbm, 123, rfl⟩
abbrev main_call0_c_14 : Ref sig .tc := ⟨.hbm, 124, rfl⟩
abbrev main_call0_v87 : Ref sig .tc := ⟨.hbm, 125, rfl⟩
abbrev main_call0_v88 : Ref sig .tc := ⟨.hbm, 126, rfl⟩
abbrev main_call0_c_15 : Ref sig .tc := ⟨.hbm, 127, rfl⟩
abbrev main_call0_v89 : Ref sig .tc := ⟨.hbm, 128, rfl⟩
abbrev main_call0_v90 : Ref sig .tc := ⟨.hbm, 129, rfl⟩
abbrev main_call0_v91 : Ref sig .tc := ⟨.hbm, 130, rfl⟩
abbrev main_call0_v92 : Ref sig .tc := ⟨.hbm, 131, rfl⟩
abbrev main_call0_v93 : Ref sig .tc := ⟨.hbm, 132, rfl⟩
abbrev main_call0_cst_16 : Ref sig .tc := ⟨.hbm, 133, rfl⟩
abbrev main_call0_call4_v0 : Ref sig .tc := ⟨.hbm, 134, rfl⟩
abbrev main_call0_call4_v1 : Ref sig .tc := ⟨.hbm, 135, rfl⟩
abbrev main_call0_v94 : Ref sig .tc := ⟨.hbm, 136, rfl⟩
abbrev main_call0_c_17 : Ref sig .tc := ⟨.hbm, 137, rfl⟩
abbrev main_call0_call5_v0 : Ref sig .tc := ⟨.hbm, 138, rfl⟩
abbrev main_call0_v95 : Ref sig .tc := ⟨.hbm, 139, rfl⟩
abbrev main_call0_v96 : Ref sig .tc := ⟨.hbm, 140, rfl⟩
abbrev main_call0_v97 : Ref sig .tc := ⟨.hbm, 141, rfl⟩
abbrev main_call0_v98 : Ref sig .tc := ⟨.hbm, 142, rfl⟩
abbrev main_call0_v99 : Ref sig .tc := ⟨.hbm, 143, rfl⟩
abbrev main_call0_v100 : Ref sig .tc := ⟨.hbm, 144, rfl⟩
abbrev main_call0_v101 : Ref sig .tc := ⟨.hbm, 145, rfl⟩
abbrev main_call0_c_18 : Ref sig .tc := ⟨.hbm, 146, rfl⟩
abbrev main_call0_v102 : Ref sig .tc := ⟨.hbm, 147, rfl⟩
abbrev main_call0_v103 : Ref sig .tc := ⟨.hbm, 148, rfl⟩
abbrev main_call0_v104 : Ref sig .tc := ⟨.hbm, 149, rfl⟩
abbrev main_call0_v105 : Ref sig .tc := ⟨.hbm, 150, rfl⟩
abbrev main_call0_v106 : Ref sig .tc := ⟨.hbm, 151, rfl⟩
abbrev main_call0_c_19 : Ref sig .tc := ⟨.hbm, 152, rfl⟩
abbrev main_call0_v107 : Ref sig .tc := ⟨.hbm, 153, rfl⟩
abbrev main_call0_v108 : Ref sig .tc := ⟨.hbm, 154, rfl⟩
abbrev main_call0_c_20 : Ref sig .tc := ⟨.hbm, 155, rfl⟩
abbrev main_call0_v109 : Ref sig .tc := ⟨.hbm, 156, rfl⟩
abbrev main_call0_v110 : Ref sig .tc := ⟨.hbm, 157, rfl⟩
abbrev main_call0_c_21 : Ref sig .tc := ⟨.hbm, 158, rfl⟩
abbrev main_call0_v111 : Ref sig .tc := ⟨.hbm, 159, rfl⟩
abbrev main_call0_v112 : Ref sig .tc := ⟨.hbm, 160, rfl⟩
abbrev main_call0_v113 : Ref sig .tc := ⟨.hbm, 161, rfl⟩
abbrev main_call0_c_22 : Ref sig .tc := ⟨.hbm, 162, rfl⟩
abbrev main_call0_c_23 : Ref sig .tc := ⟨.hbm, 163, rfl⟩
abbrev main_call0_call6_v0 : Ref sig .tc := ⟨.hbm, 164, rfl⟩
abbrev main_call0_call6_v1 : Ref sig .tc := ⟨.hbm, 165, rfl⟩
abbrev main_call0_call6_v2 : Ref sig .tc := ⟨.hbm, 166, rfl⟩
abbrev main_call0_call6_v3 : Ref sig .tc := ⟨.hbm, 167, rfl⟩
abbrev main_call0_call6_v4 : Ref sig .tc := ⟨.hbm, 168, rfl⟩
abbrev main_call0_v114 : Ref sig .tc := ⟨.hbm, 169, rfl⟩
abbrev main_call0_c_24 : Ref sig .tc := ⟨.hbm, 170, rfl⟩
abbrev main_call0_v115 : Ref sig .tc := ⟨.hbm, 171, rfl⟩
abbrev main_call0_v116 : Ref sig .tc := ⟨.hbm, 172, rfl⟩
abbrev main_call0_c_25 : Ref sig .tc := ⟨.hbm, 173, rfl⟩
abbrev main_call0_v117 : Ref sig .tc := ⟨.hbm, 174, rfl⟩
abbrev main_call0_v118 : Ref sig .tc := ⟨.hbm, 175, rfl⟩
abbrev main_call0_v119 : Ref sig .tc := ⟨.hbm, 176, rfl⟩
abbrev main_call0_v120 : Ref sig .tc := ⟨.hbm, 177, rfl⟩
abbrev main_call0_v121 : Ref sig .tc := ⟨.hbm, 178, rfl⟩
abbrev main_call0_cst_26 : Ref sig .tc := ⟨.hbm, 179, rfl⟩
abbrev main_call0_call7_v0 : Ref sig .tc := ⟨.hbm, 180, rfl⟩
abbrev main_call0_call7_v1 : Ref sig .tc := ⟨.hbm, 181, rfl⟩
abbrev main_call0_v122 : Ref sig .tc := ⟨.hbm, 182, rfl⟩
abbrev main_call0_c_27 : Ref sig .tc := ⟨.hbm, 183, rfl⟩
abbrev main_call0_call8_v0 : Ref sig .tc := ⟨.hbm, 184, rfl⟩
abbrev main_call0_v123 : Ref sig .tc := ⟨.hbm, 185, rfl⟩
abbrev main_call0_v124 : Ref sig .tc := ⟨.hbm, 186, rfl⟩
abbrev main_call0_v125 : Ref sig .tc := ⟨.hbm, 187, rfl⟩
abbrev main_call0_v126 : Ref sig .tc := ⟨.hbm, 188, rfl⟩
abbrev main_call0_v127 : Ref sig .tc := ⟨.hbm, 189, rfl⟩
abbrev main_call0_v128 : Ref sig .tc := ⟨.hbm, 190, rfl⟩
abbrev main_call0_v129 : Ref sig .tc := ⟨.hbm, 191, rfl⟩
abbrev main_call0_c_28 : Ref sig .tc := ⟨.hbm, 192, rfl⟩
abbrev main_call0_v130 : Ref sig .tc := ⟨.hbm, 193, rfl⟩
abbrev main_call0_v131 : Ref sig .tc := ⟨.hbm, 194, rfl⟩
abbrev main_call0_v132 : Ref sig .tc := ⟨.hbm, 195, rfl⟩
abbrev main_call0_v133 : Ref sig .tc := ⟨.hbm, 196, rfl⟩
abbrev main_call0_v134 : Ref sig .tc := ⟨.hbm, 197, rfl⟩
abbrev main_call0_c_29 : Ref sig .tc := ⟨.hbm, 198, rfl⟩
abbrev main_call0_v135 : Ref sig .tc := ⟨.hbm, 199, rfl⟩
abbrev main_call0_v136 : Ref sig .tc := ⟨.hbm, 200, rfl⟩
abbrev main_call0_c_30 : Ref sig .tc := ⟨.hbm, 201, rfl⟩
abbrev main_call0_v137 : Ref sig .tc := ⟨.hbm, 202, rfl⟩
abbrev main_call0_v138 : Ref sig .tc := ⟨.hbm, 203, rfl⟩
abbrev main_call0_c_31 : Ref sig .tc := ⟨.hbm, 204, rfl⟩
abbrev main_call0_v139 : Ref sig .tc := ⟨.hbm, 205, rfl⟩
abbrev main_call0_v140 : Ref sig .tc := ⟨.hbm, 206, rfl⟩
abbrev main_call0_v141 : Ref sig .tc := ⟨.hbm, 207, rfl⟩
abbrev main_call0_c_32 : Ref sig .tc := ⟨.hbm, 208, rfl⟩
abbrev main_call0_c_33 : Ref sig .tc := ⟨.hbm, 209, rfl⟩
abbrev main_call0_call9_v0 : Ref sig .tc := ⟨.hbm, 210, rfl⟩
abbrev main_call0_call9_v1 : Ref sig .tc := ⟨.hbm, 211, rfl⟩
abbrev main_call0_call9_v2 : Ref sig .tc := ⟨.hbm, 212, rfl⟩
abbrev main_call0_call9_v3 : Ref sig .tc := ⟨.hbm, 213, rfl⟩
abbrev main_call0_call9_v4 : Ref sig .tc := ⟨.hbm, 214, rfl⟩
abbrev main_call0_v142 : Ref sig .tc := ⟨.hbm, 215, rfl⟩
abbrev main_call0_c_34 : Ref sig .tc := ⟨.hbm, 216, rfl⟩
abbrev main_call0_v143 : Ref sig .tc := ⟨.hbm, 217, rfl⟩
abbrev main_call0_v144 : Ref sig .tc := ⟨.hbm, 218, rfl⟩
abbrev main_call0_c_35 : Ref sig .tc := ⟨.hbm, 219, rfl⟩
abbrev main_call0_v145 : Ref sig .tc := ⟨.hbm, 220, rfl⟩
abbrev main_call0_v146 : Ref sig .tc := ⟨.hbm, 221, rfl⟩
abbrev main_call0_v147 : Ref sig .tc := ⟨.hbm, 222, rfl⟩
abbrev main_call0_v148 : Ref sig .tc := ⟨.hbm, 223, rfl⟩
abbrev main_call0_v149 : Ref sig .tc := ⟨.hbm, 224, rfl⟩
abbrev main_call0_cst_36 : Ref sig .tc := ⟨.hbm, 225, rfl⟩
abbrev main_call0_call10_v0 : Ref sig .tc := ⟨.hbm, 226, rfl⟩
abbrev main_call0_call10_v1 : Ref sig .tc := ⟨.hbm, 227, rfl⟩
abbrev main_call0_v150 : Ref sig .tc := ⟨.hbm, 228, rfl⟩
abbrev main_call0_c_37 : Ref sig .tc := ⟨.hbm, 229, rfl⟩
abbrev main_call0_call11_v0 : Ref sig .tc := ⟨.hbm, 230, rfl⟩
abbrev main_call0_v151 : Ref sig .tc := ⟨.hbm, 231, rfl⟩
abbrev main_call0_v152 : Ref sig .tc := ⟨.hbm, 232, rfl⟩
abbrev main_call0_cst_38 : Ref sig .tc := ⟨.hbm, 233, rfl⟩
abbrev main_call0_v153 : Ref sig .tc := ⟨.hbm, 234, rfl⟩
abbrev main_call0_cst_39 : Ref sig .tc := ⟨.hbm, 235, rfl⟩
abbrev main_call0_v154 : Ref sig .tc := ⟨.hbm, 236, rfl⟩
abbrev main_call0_cst_40 : Ref sig .tc := ⟨.hbm, 237, rfl⟩
abbrev main_call0_v155 : Ref sig .tc := ⟨.hbm, 238, rfl⟩
abbrev main_call0_c_41 : Ref sig .tc := ⟨.hbm, 239, rfl⟩
abbrev main_call0_v156 : Ref sig .tc := ⟨.hbm, 240, rfl⟩
abbrev main_call0_c_42 : Ref sig .tc := ⟨.hbm, 241, rfl⟩
abbrev main_call0_v157 : Ref sig .tc := ⟨.hbm, 242, rfl⟩
abbrev main_call0_v158 : Ref sig .tc := ⟨.hbm, 243, rfl⟩
abbrev main_call0_v159 : Ref sig .tc := ⟨.hbm, 244, rfl⟩
abbrev main_call0_cst_43 : Ref sig .tc := ⟨.hbm, 245, rfl⟩
abbrev main_call0_v160 : Ref sig .tc := ⟨.hbm, 246, rfl⟩
abbrev main_call0_cst_44 : Ref sig .tc := ⟨.hbm, 247, rfl⟩
abbrev main_call0_v161 : Ref sig .tc := ⟨.hbm, 248, rfl⟩
abbrev main_call0_c_45 : Ref sig .tc := ⟨.hbm, 249, rfl⟩
abbrev main_call0_v162 : Ref sig .tc := ⟨.hbm, 250, rfl⟩
abbrev main_call0_c_46 : Ref sig .tc := ⟨.hbm, 251, rfl⟩
abbrev main_call0_v163 : Ref sig .tc := ⟨.hbm, 252, rfl⟩
abbrev main_call0_v164 : Ref sig .tc := ⟨.hbm, 253, rfl⟩
abbrev main_call0_v165 : Ref sig .tc := ⟨.hbm, 254, rfl⟩
abbrev main_call0_c_47 : Ref sig .tc := ⟨.hbm, 255, rfl⟩
abbrev main_call0_call12_v0 : Ref sig .tc := ⟨.hbm, 256, rfl⟩
abbrev main_call0_v166 : Ref sig .tc := ⟨.hbm, 257, rfl⟩
abbrev main_call0_v167 : Ref sig .tc := ⟨.hbm, 258, rfl⟩
abbrev main_call0_v168 : Ref sig .tc := ⟨.hbm, 259, rfl⟩
abbrev main_call0_v169 : Ref sig .tc := ⟨.hbm, 260, rfl⟩
abbrev main_call0_c_48 : Ref sig .tc := ⟨.hbm, 261, rfl⟩
abbrev main_call0_call13_v0 : Ref sig .tc := ⟨.hbm, 262, rfl⟩
abbrev main_call0_call13_v1 : Ref sig .tc := ⟨.hbm, 263, rfl⟩
abbrev main_call0_call13_v2 : Ref sig .tc := ⟨.hbm, 264, rfl⟩
abbrev main_call0_call13_v3 : Ref sig .tc := ⟨.hbm, 265, rfl⟩
abbrev main_call0_call13_v4 : Ref sig .tc := ⟨.hbm, 266, rfl⟩
abbrev main_call0_call13_v5 : Ref sig .tc := ⟨.hbm, 267, rfl⟩
abbrev main_call0_call13_v6 : Ref sig .tc := ⟨.hbm, 268, rfl⟩
abbrev main_call0_call13_v7 : Ref sig .tc := ⟨.hbm, 269, rfl⟩
abbrev main_call0_call13_v8 : Ref sig .tc := ⟨.hbm, 270, rfl⟩
abbrev main_call0_call13_c : Ref sig .tc := ⟨.hbm, 271, rfl⟩
abbrev main_call0_call13_v9 : Ref sig .tc := ⟨.hbm, 272, rfl⟩
abbrev main_call0_call13_v10 : Ref sig .tc := ⟨.hbm, 273, rfl⟩
abbrev main_call0_call13_v11 : Ref sig .tc := ⟨.hbm, 274, rfl⟩
abbrev main_call0_call13_c_0 : Ref sig .tc := ⟨.hbm, 275, rfl⟩
abbrev main_call0_call13_v12 : Ref sig .tc := ⟨.hbm, 276, rfl⟩
abbrev main_call0_call13_v13 : Ref sig .tc := ⟨.hbm, 277, rfl⟩
abbrev main_call0_v170 : Ref sig .tc := ⟨.hbm, 278, rfl⟩
abbrev main_call0_v171 : Ref sig .tc := ⟨.hbm, 279, rfl⟩
abbrev main_call0_v172 : Ref sig .tc := ⟨.hbm, 280, rfl⟩
abbrev main_call0_v173 : Ref sig .tc := ⟨.hbm, 281, rfl⟩
abbrev main_call0_v174 : Ref sig .tc := ⟨.hbm, 282, rfl⟩
abbrev main_call0_v175 : Ref sig .tc := ⟨.hbm, 283, rfl⟩
abbrev main_call0_v176 : Ref sig .tc := ⟨.hbm, 284, rfl⟩
abbrev main_call0_v177 : Ref sig .tc := ⟨.hbm, 285, rfl⟩
abbrev main_call0_v178 : Ref sig .tc := ⟨.hbm, 286, rfl⟩
abbrev main_call0_c_49 : Ref sig .tc := ⟨.hbm, 287, rfl⟩
abbrev main_call0_call14_v0 : Ref sig .tc := ⟨.hbm, 288, rfl⟩
abbrev main_call0_call14_v1 : Ref sig .tc := ⟨.hbm, 289, rfl⟩
abbrev main_call0_call14_v2 : Ref sig .tc := ⟨.hbm, 290, rfl⟩
abbrev main_call0_call14_v3 : Ref sig .tc := ⟨.hbm, 291, rfl⟩
abbrev main_call0_call14_v4 : Ref sig .tc := ⟨.hbm, 292, rfl⟩
abbrev main_call0_call14_v5 : Ref sig .tc := ⟨.hbm, 293, rfl⟩
abbrev main_call0_call14_v6 : Ref sig .tc := ⟨.hbm, 294, rfl⟩
abbrev main_call0_call14_v7 : Ref sig .tc := ⟨.hbm, 295, rfl⟩
abbrev main_call0_call14_v8 : Ref sig .tc := ⟨.hbm, 296, rfl⟩
abbrev main_call0_call14_c : Ref sig .tc := ⟨.hbm, 297, rfl⟩
abbrev main_call0_call14_v9 : Ref sig .tc := ⟨.hbm, 298, rfl⟩
abbrev main_call0_call14_v10 : Ref sig .tc := ⟨.hbm, 299, rfl⟩
abbrev main_call0_call14_v11 : Ref sig .tc := ⟨.hbm, 300, rfl⟩
abbrev main_call0_call14_c_0 : Ref sig .tc := ⟨.hbm, 301, rfl⟩
abbrev main_call0_call14_v12 : Ref sig .tc := ⟨.hbm, 302, rfl⟩
abbrev main_call0_call14_v13 : Ref sig .tc := ⟨.hbm, 303, rfl⟩
abbrev main_call0_v179 : Ref sig .tc := ⟨.hbm, 304, rfl⟩
abbrev main_call0_v180 : Ref sig .tc := ⟨.hbm, 305, rfl⟩
abbrev main_call0_v181 : Ref sig .tc := ⟨.hbm, 306, rfl⟩
abbrev main_call0_v182 : Ref sig .tc := ⟨.hbm, 307, rfl⟩
abbrev main_call0_v183 : Ref sig .tc := ⟨.hbm, 308, rfl⟩
abbrev main_call0_v184 : Ref sig .tc := ⟨.hbm, 309, rfl⟩
abbrev main_call0_v185 : Ref sig .tc := ⟨.hbm, 310, rfl⟩
abbrev main_v0 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_110 : BitVec 32 := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let v400 : BitVec 32 := Scalar.subi v399 c0_i32_110
  let c1_i32_111 : BitVec 32 := 1#32
  let v402 : BitVec 32 := Scalar.divsi v400 c1_i32_111
  let v403 : BitVec 32 := Scalar.muli v402 c1_i32_111
  let v404 : BitVec 32 := Scalar.addi c0_i32_110 v403
  let c1_i32_112 : BitVec 32 := 1#32
  ⟨c0_i32_110, v404, c1_i32_112⟩
def k0_off1 (i : grid0.Coords) (k0_t1 : Fin (k0_t1_loop i).trips) : Fin 3 → Nat :=
  let c0_149 : Index := 0#32
  let c0_i32_110 : BitVec 32 := 0#32
  let c1_i32_112 : BitVec 32 := 1#32
  let arg20 : BitVec 32 := Scf.iv c0_i32_110 c1_i32_112 k0_t1
  let c512_i32_148 : BitVec 32 := 512#32
  let v486 : BitVec 32 := Scalar.muli arg20 c512_i32_148
  let v487 : Index := Scalar.indexCast v486
  let c0_150 : Index := 0#32
  ![0, v487.toNat, 0]
def k0_off2 (i : grid0.Coords) (k0_t1 : Fin (k0_t1_loop i).trips) : Fin 2 → Nat :=
  let c0_i32_110 : BitVec 32 := 0#32
  let c1_i32_112 : BitVec 32 := 1#32
  let arg20 : BitVec 32 := Scf.iv c0_i32_110 c1_i32_112 k0_t1
  let c512_i32_156 : BitVec 32 := 512#32
  let v497 : BitVec 32 := Scalar.muli arg20 c512_i32_156
  let v498 : Index := Scalar.indexCast v497
  let c0_157 : Index := 0#32
  ![v498.toNat, 0]
@[reducible] def k0_t2_loop (i : grid0.Coords) : Scf.Loop 32 :=
  let c0_i32_110 : BitVec 32 := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let v400 : BitVec 32 := Scalar.subi v399 c0_i32_110
  let c1_i32_111 : BitVec 32 := 1#32
  let v402 : BitVec 32 := Scalar.divsi v400 c1_i32_111
  let v403 : BitVec 32 := Scalar.muli v402 c1_i32_111
  let v404 : BitVec 32 := Scalar.addi c0_i32_110 v403
  let v401 : BitVec 32 := Scalar.addi c0_i32_110 v400
  let c1_i32_113 : BitVec 32 := 1#32
  ⟨v404, v401, c1_i32_113⟩
def k0_off3 (i : grid0.Coords) (k0_t2 : Fin (k0_t2_loop i).trips) : Fin 3 → Nat :=
  let c0_149 : Index := 0#32
  let c0_i32_110 : BitVec 32 := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let v400 : BitVec 32 := Scalar.subi v399 c0_i32_110
  let c1_i32_111 : BitVec 32 := 1#32
  let v402 : BitVec 32 := Scalar.divsi v400 c1_i32_111
  let v403 : BitVec 32 := Scalar.muli v402 c1_i32_111
  let v404 : BitVec 32 := Scalar.addi c0_i32_110 v403
  let c1_i32_113 : BitVec 32 := 1#32
  let arg20 : BitVec 32 := Scf.iv v404 c1_i32_113 k0_t2
  let c512_i32_148 : BitVec 32 := 512#32
  let v486 : BitVec 32 := Scalar.muli arg20 c512_i32_148
  let v487 : Index := Scalar.indexCast v486
  let c0_150 : Index := 0#32
  ![0, v487.toNat, 0]
def k0_off4 (i : grid0.Coords) (k0_t2 : Fin (k0_t2_loop i).trips) : Fin 2 → Nat :=
  let c0_i32_110 : BitVec 32 := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let v400 : BitVec 32 := Scalar.subi v399 c0_i32_110
  let c1_i32_111 : BitVec 32 := 1#32
  let v402 : BitVec 32 := Scalar.divsi v400 c1_i32_111
  let v403 : BitVec 32 := Scalar.muli v402 c1_i32_111
  let v404 : BitVec 32 := Scalar.addi c0_i32_110 v403
  let c1_i32_113 : BitVec 32 := 1#32
  let arg20 : BitVec 32 := Scf.iv v404 c1_i32_113 k0_t2
  let c512_i32_156 : BitVec 32 := 512#32
  let v497 : BitVec 32 := Scalar.muli arg20 c512_i32_156
  let v498 : Index := Scalar.indexCast v497
  let c0_157 : Index := 0#32
  ![v498.toNat, 0]
@[reducible] def k0_t3_loop (i : grid0.Coords) : Scf.Loop 32 :=
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c1_i32_114 : BitVec 32 := 1#32
  let v408 : BitVec 32 := Scalar.subi v399 c1_i32_114
  let c0_i32_115 : BitVec 32 := 0#32
  let v409 : BitVec 32 := Scalar.maxsi v408 c0_i32_115
  let v410 : BitVec 32 := Scalar.subi v399 v409
  let c1_i32_116 : BitVec 32 := 1#32
  let v412 : BitVec 32 := Scalar.divsi v410 c1_i32_116
  let v413 : BitVec 32 := Scalar.muli v412 c1_i32_116
  let v414 : BitVec 32 := Scalar.addi v409 v413
  let c1_i32_117 : BitVec 32 := 1#32
  ⟨v409, v414, c1_i32_117⟩
def k0_off5 (i : grid0.Coords) (k0_t3 : Fin (k0_t3_loop i).trips) : Fin 3 → Nat :=
  let c0_149 : Index := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c1_i32_114 : BitVec 32 := 1#32
  let v408 : BitVec 32 := Scalar.subi v399 c1_i32_114
  let c0_i32_115 : BitVec 32 := 0#32
  let v409 : BitVec 32 := Scalar.maxsi v408 c0_i32_115
  let c1_i32_117 : BitVec 32 := 1#32
  let arg20 : BitVec 32 := Scf.iv v409 c1_i32_117 k0_t3
  let c512_i32_148 : BitVec 32 := 512#32
  let v486 : BitVec 32 := Scalar.muli arg20 c512_i32_148
  let v487 : Index := Scalar.indexCast v486
  let c0_150 : Index := 0#32
  ![0, v487.toNat, 0]
@[reducible] def k0_t4_loop (i : grid0.Coords) : Scf.Loop 32 :=
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c1_i32_114 : BitVec 32 := 1#32
  let v408 : BitVec 32 := Scalar.subi v399 c1_i32_114
  let c0_i32_115 : BitVec 32 := 0#32
  let v409 : BitVec 32 := Scalar.maxsi v408 c0_i32_115
  let v410 : BitVec 32 := Scalar.subi v399 v409
  let c1_i32_116 : BitVec 32 := 1#32
  let v412 : BitVec 32 := Scalar.divsi v410 c1_i32_116
  let v413 : BitVec 32 := Scalar.muli v412 c1_i32_116
  let v414 : BitVec 32 := Scalar.addi v409 v413
  let v411 : BitVec 32 := Scalar.addi v409 v410
  let c1_i32_118 : BitVec 32 := 1#32
  ⟨v414, v411, c1_i32_118⟩
def k0_off6 (i : grid0.Coords) (k0_t4 : Fin (k0_t4_loop i).trips) : Fin 3 → Nat :=
  let c0_149 : Index := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c1_i32_114 : BitVec 32 := 1#32
  let v408 : BitVec 32 := Scalar.subi v399 c1_i32_114
  let c0_i32_115 : BitVec 32 := 0#32
  let v409 : BitVec 32 := Scalar.maxsi v408 c0_i32_115
  let v410 : BitVec 32 := Scalar.subi v399 v409
  let c1_i32_116 : BitVec 32 := 1#32
  let v412 : BitVec 32 := Scalar.divsi v410 c1_i32_116
  let v413 : BitVec 32 := Scalar.muli v412 c1_i32_116
  let v414 : BitVec 32 := Scalar.addi v409 v413
  let c1_i32_118 : BitVec 32 := 1#32
  let arg20 : BitVec 32 := Scf.iv v414 c1_i32_118 k0_t4
  let c512_i32_148 : BitVec 32 := 512#32
  let v486 : BitVec 32 := Scalar.muli arg20 c512_i32_148
  let v487 : Index := Scalar.indexCast v486
  let c0_150 : Index := 0#32
  ![0, v487.toNat, 0]
def k0_off7 (i : grid0.Coords) : Fin 3 → Nat :=
  let c0_120 : Index := 0#32
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c512_i32_119 : BitVec 32 := 512#32
  let v417 : BitVec 32 := Scalar.muli v399 c512_i32_119
  let v418 : Index := Scalar.indexCast v417
  let c0_121 : Index := 0#32
  ![0, v418.toNat, 0]
def k0_off8 (i : grid0.Coords) : Fin 2 → Nat :=
  let c512_i32_102 : BitVec 32 := 512#32
  let arg1 : BitVec 32 := BitVec.ofNat 32 (i 1).val
  let v382 : BitVec 32 := Scalar.muli c512_i32_102 arg1
  let c0_i32_104 : BitVec 32 := 0#32
  let v384 : BitVec 1 := Scalar.cmpi .sgt v382 c0_i32_104
  let v385 : BitVec 32 := Scalar.extui v384
  let c0_i32_105 : BitVec 32 := 0#32
  let v386 : BitVec 1 := Scalar.cmpi .slt v382 c0_i32_105
  let v387 : BitVec 32 := Scalar.extui v386
  let v388 : BitVec 32 := Scalar.subi v385 v387
  let c512_i32_103 : BitVec 32 := 512#32
  let c0_i32_106 : BitVec 32 := 0#32
  let v389 : BitVec 1 := Scalar.cmpi .sgt c512_i32_103 c0_i32_106
  let v390 : BitVec 32 := Scalar.extui v389
  let c0_i32_107 : BitVec 32 := 0#32
  let v391 : BitVec 1 := Scalar.cmpi .slt c512_i32_103 c0_i32_107
  let v392 : BitVec 32 := Scalar.extui v391
  let v393 : BitVec 32 := Scalar.subi v390 v392
  let v394 : BitVec 1 := Scalar.cmpi .ne v388 v393
  let v395 : BitVec 32 := Scalar.remsi v382 c512_i32_103
  let c0_i32_108 : BitVec 32 := 0#32
  let v396 : BitVec 1 := Scalar.cmpi .ne v395 c0_i32_108
  let v397 : BitVec 1 := Scalar.andi v394 v396
  let v383 : BitVec 32 := Scalar.divsi v382 c512_i32_103
  let c1_i32_109 : BitVec 32 := 1#32
  let v398 : BitVec 32 := Scalar.subi v383 c1_i32_109
  let v399 : BitVec 32 := Scalar.select v397 v398 v383
  let c512_i32_130 : BitVec 32 := 512#32
  let v439 : BitVec 32 := Scalar.muli v399 c512_i32_130
  let v440 : Index := Scalar.indexCast v439
  let c0_131 : Index := 0#32
  ![v440.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x8 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | "s" => some (((Real.sqrt 128)⁻¹ : ℝ) : EReal)
  | "s2" => some (((Real.sqrt 128)⁻¹ * (Real.log 2)⁻¹ : ℝ) : EReal)
  | _ => none
-- ==== ReferenceIdeal.lean ====
abbrev S1x2048x16x128 : Shape := ⟨4, ![1, 2048, 16, 128]⟩
abbrev S1x2048x4x128 : Shape := ⟨4, ![1, 2048, 4, 128]⟩
abbrev S32 : Shape := ⟨1, ![32]⟩
abbrev S32x128 : Shape := ⟨2, ![32, 128]⟩
abbrev S128x3 : Shape := ⟨2, ![128, 3]⟩
abbrev S_ : Shape := ⟨0, ![]⟩
abbrev S2048 : Shape := ⟨1, ![2048]⟩
abbrev S127 : Shape := ⟨1, ![127]⟩
abbrev S127x1 : Shape := ⟨2, ![127, 1]⟩
abbrev S1x32 : Shape := ⟨2, ![1, 32]⟩
abbrev S127x32 : Shape := ⟨2, ![127, 32]⟩
abbrev S127x32x1 : Shape := ⟨3, ![127, 32, 1]⟩
abbrev S1x127x32x4x128 : Shape := ⟨5, ![1, 127, 32, 4, 128]⟩
abbrev S1x1x32x1x128 : Shape := ⟨5, ![1, 1, 32, 1, 128]⟩
abbrev S1x127x4x128 : Shape := ⟨4, ![1, 127, 4, 128]⟩
abbrev S1x127x4x4x128 : Shape := ⟨5, ![1, 127, 4, 4, 128]⟩
abbrev S1x127x16x128 : Shape := ⟨4, ![1, 127, 16, 128]⟩
abbrev S1x16x2048x127 : Shape := ⟨4, ![1, 16, 2048, 127]⟩
abbrev S1x127 : Shape := ⟨2, ![1, 127]⟩
abbrev S2048x1 : Shape := ⟨2, ![2048, 1]⟩
abbrev S2048x127 : Shape := ⟨2, ![2048, 127]⟩
abbrev S1x1x2048x127 : Shape := ⟨4, ![1, 1, 2048, 127]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩
abbrev S1x4x4x2048x127 : Shape := ⟨5, ![1, 4, 4, 2048, 127]⟩
abbrev S1x4x2048x127 : Shape := ⟨4, ![1, 4, 2048, 127]⟩
abbrev S1x4x2048x32 : Shape := ⟨4, ![1, 4, 2048, 32]⟩
abbrev S2048x32 : Shape := ⟨2, ![2048, 32]⟩
abbrev S1x1x2048x32 : Shape := ⟨4, ![1, 1, 2048, 32]⟩
abbrev S1x4x2048x16 : Shape := ⟨4, ![1, 4, 2048, 16]⟩
abbrev S1x4x2048x16x1 : Shape := ⟨5, ![1, 4, 2048, 16, 1]⟩
abbrev S1x1x1x1x32 : Shape := ⟨5, ![1, 1, 1, 1, 32]⟩
abbrev S1x4x2048x16x32 : Shape := ⟨5, ![1, 4, 2048, 16, 32]⟩
abbrev S1 : Shape := ⟨1, ![1]⟩
abbrev S1x1 : Shape := ⟨2, ![1, 1]⟩
abbrev S1x4x2048x2048 : Shape := ⟨4, ![1, 4, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x4x4x2048x2048 : Shape := ⟨5, ![1, 4, 4, 2048, 2048]⟩
abbrev S1x16x2048x2048 : Shape := ⟨4, ![1, 16, 2048, 2048]⟩
abbrev S1x2048x4x4x128 : Shape := ⟨5, ![1, 2048, 4, 4, 128]⟩
abbrev S1x2048x16x3 : Shape := ⟨4, ![1, 2048, 16, 3]⟩
abbrev S1x2048x16x1 : Shape := ⟨4, ![1, 2048, 16, 1]⟩
abbrev S4x512x4x4x128 : Shape := ⟨5, ![4, 512, 4, 4, 128]⟩
abbrev S4x4x128x4x512 : Shape := ⟨5, ![4, 4, 128, 4, 512]⟩
abbrev S4x4x128x2048 : Shape := ⟨4, ![4, 4, 128, 2048]⟩

abbrev nBuf : Space → Nat
  | .hbm => 349
  | .vmem => 0
  | .smem => 0
  | _ => 0

abbrev hbmTy0_0 (i : Nat) : BufTy := match i % 128 with
  | 0 => ⟨S1x2048x16x128, .f32⟩
  | 1 => ⟨S1x2048x4x128, .f32⟩
  | 2 => ⟨S1x2048x4x128, .f32⟩
  | 3 => ⟨S32, .f32⟩
  | 4 => ⟨S32, .f32⟩
  | 5 => ⟨S32x128, .f32⟩
  | 6 => ⟨S32x128, .f32⟩
  | 7 => ⟨S128x3, .f32⟩
  | 8 => ⟨S_, .f32⟩
  | 9 => ⟨S_, .f32⟩
  | 10 => ⟨S_, .f32⟩
  | 11 => ⟨S_, .f32⟩
  | 12 => ⟨S2048, .i32⟩
  | 13 => ⟨S127, .i32⟩
  | 14 => ⟨S127x1, .i32⟩
  | 15 => ⟨S_, .i32⟩
  | 16 => ⟨S127x1, .i32⟩
  | 17 => ⟨S127x1, .i32⟩
  | 18 => ⟨S32, .i32⟩
  | 19 => ⟨S1x32, .i32⟩
  | 20 => ⟨S127x32, .i32⟩
  | 21 => ⟨S127x32, .i32⟩
  | 22 => ⟨S127x32, .i32⟩
  | 23 => ⟨S_, .i32⟩
  | 24 => ⟨S127x32, .i32⟩
  | 25 => ⟨S127x32, .i1⟩
  | 26 => ⟨S_, .i32⟩
  | 27 => ⟨S127x32, .i32⟩
  | 28 => ⟨S127x32, .i32⟩
  | 29 => ⟨S127x32, .i32⟩
  | 30 => ⟨S127x32x1, .i32⟩
  | 31 => ⟨S1x127x32x4x128, .f32⟩
  | 32 => ⟨S1x1x32x1x128, .f32⟩
  | 33 => ⟨S1x127x32x4x128, .f32⟩
  | 34 => ⟨S1x127x32x4x128, .f32⟩
  | 35 => ⟨S_, .f32⟩
  | 36 => ⟨S_, .f32⟩
  | 37 => ⟨S_, .f32⟩
  | 38 => ⟨S_, .f32⟩
  | 39 => ⟨S1x127x4x128, .f32⟩
  | 40 => ⟨S1x127x4x128, .f32⟩
  | 41 => ⟨S1x127x4x128, .f32⟩
  | 42 => ⟨S127, .i32⟩
  | 43 => ⟨S127x1, .i32⟩
  | 44 => ⟨S_, .i32⟩
  | 45 => ⟨S127x1, .i32⟩
  | 46 => ⟨S127x1, .i32⟩
  | 47 => ⟨S32, .i32⟩
  | 48 => ⟨S1x32, .i32⟩
  | 49 => ⟨S127x32, .i32⟩
  | 50 => ⟨S127x32, .i32⟩
  | 51 => ⟨S127x32, .i32⟩
  | 52 => ⟨S_, .i32⟩
  | 53 => ⟨S127x32, .i32⟩
  | 54 => ⟨S127x32, .i1⟩
  | 55 => ⟨S_, .i32⟩
  | 56 => ⟨S127x32, .i32⟩
  | 57 => ⟨S127x32, .i32⟩
  | 58 => ⟨S127x32, .i32⟩
  | 59 => ⟨S127x32x1, .i32⟩
  | 60 => ⟨S1x127x32x4x128, .f32⟩
  | 61 => ⟨S1x1x32x1x128, .f32⟩
  | 62 => ⟨S1x127x32x4x128, .f32⟩
  | 63 => ⟨S1x127x32x4x128, .f32⟩
  | 64 => ⟨S_, .f32⟩
  | 65 => ⟨S_, .f32⟩
  | 66 => ⟨S_, .f32⟩
  | 67 => ⟨S_, .f32⟩
  | 68 => ⟨S1x127x4x128, .f32⟩
  | 69 => ⟨S1x127x4x128, .f32⟩
  | 70 => ⟨S1x127x4x128, .f32⟩
  | 71 => ⟨S1x127x4x4x128, .f32⟩
  | 72 => ⟨S1x127x16x128, .f32⟩
  | 73 => ⟨S1x127x4x4x128, .f32⟩
  | 74 => ⟨S1x127x16x128, .f32⟩
  | 75 => ⟨S1x16x2048x127, .f32⟩
  | 76 => ⟨S1x16x2048x127, .f32⟩
  | 77 => ⟨S1x16x2048x127, .f32⟩
  | 78 => ⟨S127, .i32⟩
  | 79 => ⟨S_, .i32⟩
  | 80 => ⟨S127, .i32⟩
  | 81 => ⟨S127, .i32⟩
  | 82 => ⟨S_, .i32⟩
  | 83 => ⟨S127, .i32⟩
  | 84 => ⟨S127, .i32⟩
  | 85 => ⟨S_, .i32⟩
  | 86 => ⟨S127, .i32⟩
  | 87 => ⟨S127, .i32⟩
  | 88 => ⟨S1x127, .i32⟩
  | 89 => ⟨S2048x1, .i32⟩
  | 90 => ⟨S2048x127, .i32⟩
  | 91 => ⟨S2048x127, .i32⟩
  | 92 => ⟨S2048x127, .i1⟩
  | 93 => ⟨S1x1x2048x127, .i1⟩
  | 94 => ⟨S_, .f32⟩
  | 95 => ⟨S_, .f32⟩
  | 96 => ⟨S1x16x2048x127, .i1⟩
  | 97 => ⟨S1x16x2048x127, .f32⟩
  | 98 => ⟨S1x16x2048x127, .f32⟩
  | 99 => ⟨S_, .f32⟩
  | 100 => ⟨S1x16x2048, .f32⟩
  | 101 => ⟨S1x16x2048x1, .f32⟩
  | 102 => ⟨S1x16x2048x127, .f32⟩
  | 103 => ⟨S1x16x2048x127, .f32⟩
  | 104 => ⟨S1x16x2048x127, .f32⟩
  | 105 => ⟨S_, .f32⟩
  | 106 => ⟨S_, .f32⟩
  | 107 => ⟨S1x16x2048x127, .i1⟩
  | 108 => ⟨S1x16x2048x127, .f32⟩
  | 109 => ⟨S1x16x2048x127, .f32⟩
  | 110 => ⟨S_, .f32⟩
  | 111 => ⟨S1x16x2048, .f32⟩
  | 112 => ⟨S1x16x2048x1, .f32⟩
  | 113 => ⟨S_, .f32⟩
  | 114 => ⟨S1x16x2048x1, .f32⟩
  | 115 => ⟨S1x16x2048x1, .f32⟩
  | 116 => ⟨S1x16x2048x127, .f32⟩
  | 117 => ⟨S1x16x2048x127, .f32⟩
  | 118 => ⟨S1x16x128x2048, .f32⟩
  | 119 => ⟨S1x2048x16x128, .f32⟩
  | 120 => ⟨S1x4x4x2048x127, .f32⟩
  | 121 => ⟨S_, .f32⟩
  | 122 => ⟨S1x4x2048x127, .f32⟩
  | 123 => ⟨S127, .i32⟩
  | 124 => ⟨S_, .i32⟩
  | 125 => ⟨S127, .i32⟩
  | 126 => ⟨S127, .i32⟩
  | 127 => ⟨S_, .i32⟩
  | _ => ⟨S1x2048x16x128, .f32⟩

abbrev hbmTy0_1 (i : Nat) : BufTy := match i % 128 with
  | 0 => ⟨S_, .i32⟩
  | 1 => ⟨S127, .i32⟩
  | 2 => ⟨S127, .i32⟩
  | 3 => ⟨S127, .i32⟩
  | 4 => ⟨S_, .i32⟩
  | 5 => ⟨S127, .i32⟩
  | 6 => ⟨S127, .i1⟩
  | 7 => ⟨S127, .i32⟩
  | 8 => ⟨S127, .i32⟩
  | 9 => ⟨S_, .i32⟩
  | 10 => ⟨S127, .i32⟩
  | 11 => ⟨S127, .i1⟩
  | 12 => ⟨S127, .i1⟩
  | 13 => ⟨S_, .i32⟩
  | 14 => ⟨S127, .i32⟩
  | 15 => ⟨S127, .i32⟩
  | 16 => ⟨S127, .i32⟩
  | 17 => ⟨S127x1, .i32⟩
  | 18 => ⟨S32, .i32⟩
  | 19 => ⟨S1x32, .i32⟩
  | 20 => ⟨S127x32, .i32⟩
  | 21 => ⟨S127x32, .i32⟩
  | 22 => ⟨S127x32, .i1⟩
  | 23 => ⟨S127x32, .f32⟩
  | 24 => ⟨S1x4x2048x32, .f32⟩
  | 25 => ⟨S_, .i32⟩
  | 26 => ⟨S_, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i1⟩
  | 33 => ⟨S2048, .i32⟩
  | 34 => ⟨S2048, .i32⟩
  | 35 => ⟨S_, .i32⟩
  | 36 => ⟨S2048, .i32⟩
  | 37 => ⟨S2048, .i1⟩
  | 38 => ⟨S2048, .i1⟩
  | 39 => ⟨S_, .i32⟩
  | 40 => ⟨S2048, .i32⟩
  | 41 => ⟨S2048, .i32⟩
  | 42 => ⟨S2048, .i32⟩
  | 43 => ⟨S32, .i32⟩
  | 44 => ⟨S1x32, .i32⟩
  | 45 => ⟨S2048x1, .i32⟩
  | 46 => ⟨S2048x32, .i32⟩
  | 47 => ⟨S2048x32, .i32⟩
  | 48 => ⟨S2048x32, .i1⟩
  | 49 => ⟨S2048x32, .f32⟩
  | 50 => ⟨S32, .i32⟩
  | 51 => ⟨S1x32, .i32⟩
  | 52 => ⟨S_, .i32⟩
  | 53 => ⟨S1x32, .i32⟩
  | 54 => ⟨S1x32, .i1⟩
  | 55 => ⟨S1x32, .f32⟩
  | 56 => ⟨S2048x32, .f32⟩
  | 57 => ⟨S2048x32, .f32⟩
  | 58 => ⟨S1x1x2048x32, .f32⟩
  | 59 => ⟨S_, .f32⟩
  | 60 => ⟨S1x1x2048x32, .f32⟩
  | 61 => ⟨S1x1x2048x32, .f32⟩
  | 62 => ⟨S1x4x2048x32, .f32⟩
  | 63 => ⟨S1x4x2048x32, .f32⟩
  | 64 => ⟨S1x4x2048x16, .f32⟩
  | 65 => ⟨S1x4x2048x16, .i32⟩
  | 66 => ⟨S1x4x2048x16x1, .i32⟩
  | 67 => ⟨S1x1x1x1x32, .i32⟩
  | 68 => ⟨S1x4x2048x16x32, .i32⟩
  | 69 => ⟨S1x4x2048x16x32, .i32⟩
  | 70 => ⟨S1x4x2048x16x32, .i1⟩
  | 71 => ⟨S1x4x2048x16x32, .f32⟩
  | 72 => ⟨S_, .f32⟩
  | 73 => ⟨S1x4x2048x32, .f32⟩
  | 74 => ⟨S_, .f32⟩
  | 75 => ⟨S1x4x2048x32, .f32⟩
  | 76 => ⟨S1x4x2048x32, .i1⟩
  | 77 => ⟨S2048, .i32⟩
  | 78 => ⟨S_, .i32⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i1⟩
  | 86 => ⟨S2048, .i32⟩
  | 87 => ⟨S2048, .i32⟩
  | 88 => ⟨S_, .i32⟩
  | 89 => ⟨S2048, .i32⟩
  | 90 => ⟨S2048, .i1⟩
  | 91 => ⟨S2048, .i1⟩
  | 92 => ⟨S_, .i32⟩
  | 93 => ⟨S2048, .i32⟩
  | 94 => ⟨S2048, .i32⟩
  | 95 => ⟨S2048, .i32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S2048x1, .i32⟩
  | 104 => ⟨S1, .i32⟩
  | 105 => ⟨S_, .i32⟩
  | 106 => ⟨S2048x1, .i32⟩
  | 107 => ⟨S2048x1, .i1⟩
  | 108 => ⟨S1x1, .i32⟩
  | 109 => ⟨S2048x1, .i32⟩
  | 110 => ⟨S2048x1, .i1⟩
  | 111 => ⟨S2048x1, .i1⟩
  | 112 => ⟨S_, .i1⟩
  | 113 => ⟨S2048, .i1⟩
  | 114 => ⟨S1x4x2048x2048, .i1⟩
  | 115 => ⟨S1x4x2048x2048, .i1⟩
  | 116 => ⟨S_, .i1⟩
  | 117 => ⟨S1x4x2048x2048, .i1⟩
  | 118 => ⟨S1x4x2048x2048, .i1⟩
  | 119 => ⟨S2048x1, .i32⟩
  | 120 => ⟨S2048, .i32⟩
  | 121 => ⟨S1x2048, .i32⟩
  | 122 => ⟨S2048x2048, .i32⟩
  | 123 => ⟨S2048x2048, .i32⟩
  | 124 => ⟨S2048x2048, .i1⟩
  | 125 => ⟨S1x1x2048x2048, .i1⟩
  | 126 => ⟨S1x4x2048x2048, .i1⟩
  | 127 => ⟨S1x4x2048x2048, .i1⟩
  | _ => ⟨S1x2048x16x128, .f32⟩

abbrev hbmTy0_2 (i : Nat) : BufTy := match i % 128 with
  | 0 => ⟨S1x4x4x2048x2048, .i1⟩
  | 1 => ⟨S1x16x2048x2048, .i1⟩
  | 2 => ⟨S1x2048x4x4x128, .f32⟩
  | 3 => ⟨S1x2048x16x128, .f32⟩
  | 4 => ⟨S1x2048x4x4x128, .f32⟩
  | 5 => ⟨S1x2048x16x128, .f32⟩
  | 6 => ⟨S1x16x2048x2048, .f32⟩
  | 7 => ⟨S1x16x2048x2048, .f32⟩
  | 8 => ⟨S1x16x2048x2048, .f32⟩
  | 9 => ⟨S_, .f32⟩
  | 10 => ⟨S_, .f32⟩
  | 11 => ⟨S1x16x2048x2048, .f32⟩
  | 12 => ⟨S1x16x2048x2048, .f32⟩
  | 13 => ⟨S_, .f32⟩
  | 14 => ⟨S1x16x2048, .f32⟩
  | 15 => ⟨S1x16x2048x1, .f32⟩
  | 16 => ⟨S1x16x2048x2048, .f32⟩
  | 17 => ⟨S1x16x2048x2048, .f32⟩
  | 18 => ⟨S1x16x2048x2048, .f32⟩
  | 19 => ⟨S_, .f32⟩
  | 20 => ⟨S_, .f32⟩
  | 21 => ⟨S1x16x2048x2048, .f32⟩
  | 22 => ⟨S1x16x2048x2048, .f32⟩
  | 23 => ⟨S_, .f32⟩
  | 24 => ⟨S1x16x2048, .f32⟩
  | 25 => ⟨S1x16x2048x1, .f32⟩
  | 26 => ⟨S_, .f32⟩
  | 27 => ⟨S1x16x2048x1, .f32⟩
  | 28 => ⟨S1x16x2048x1, .f32⟩
  | 29 => ⟨S1x16x2048x2048, .f32⟩
  | 30 => ⟨S1x16x2048x2048, .f32⟩
  | 31 => ⟨S1x16x128x2048, .f32⟩
  | 32 => ⟨S1x2048x16x128, .f32⟩
  | 33 => ⟨S2048x1, .i32⟩
  | 34 => ⟨S2048, .i32⟩
  | 35 => ⟨S1x2048, .i32⟩
  | 36 => ⟨S2048x2048, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S2048x2048, .i1⟩
  | 43 => ⟨S1x1x2048x2048, .i1⟩
  | 44 => ⟨S_, .f32⟩
  | 45 => ⟨S_, .f32⟩
  | 46 => ⟨S1x16x2048x2048, .i1⟩
  | 47 => ⟨S1x16x2048x2048, .f32⟩
  | 48 => ⟨S1x16x2048x2048, .f32⟩
  | 49 => ⟨S_, .f32⟩
  | 50 => ⟨S1x16x2048, .f32⟩
  | 51 => ⟨S1x16x2048x1, .f32⟩
  | 52 => ⟨S1x16x2048x2048, .f32⟩
  | 53 => ⟨S1x16x2048x2048, .f32⟩
  | 54 => ⟨S1x16x2048x2048, .f32⟩
  | 55 => ⟨S_, .f32⟩
  | 56 => ⟨S_, .f32⟩
  | 57 => ⟨S1x16x2048x2048, .i1⟩
  | 58 => ⟨S1x16x2048x2048, .f32⟩
  | 59 => ⟨S1x16x2048x2048, .f32⟩
  | 60 => ⟨S_, .f32⟩
  | 61 => ⟨S1x16x2048, .f32⟩
  | 62 => ⟨S1x16x2048x1, .f32⟩
  | 63 => ⟨S_, .f32⟩
  | 64 => ⟨S1x16x2048x1, .f32⟩
  | 65 => ⟨S1x16x2048x1, .f32⟩
  | 66 => ⟨S1x16x2048x2048, .f32⟩
  | 67 => ⟨S1x16x2048x2048, .f32⟩
  | 68 => ⟨S1x16x128x2048, .f32⟩
  | 69 => ⟨S1x2048x16x128, .f32⟩
  | 70 => ⟨S1x2048x16x3, .f32⟩
  | 71 => ⟨S1x2048x16x3, .f32⟩
  | 72 => ⟨S1x2048x16x3, .f32⟩
  | 73 => ⟨S_, .f32⟩
  | 74 => ⟨S1x2048x16x3, .f32⟩
  | 75 => ⟨S1x2048x16x3, .f32⟩
  | 76 => ⟨S_, .f32⟩
  | 77 => ⟨S1x2048x16x3, .f32⟩
  | 78 => ⟨S1x2048x16x3, .f32⟩
  | 79 => ⟨S1x2048x16x1, .f32⟩
  | 80 => ⟨S1x2048x16x128, .f32⟩
  | 81 => ⟨S1x2048x16x128, .f32⟩
  | 82 => ⟨S1x2048x16x1, .f32⟩
  | 83 => ⟨S1x2048x16x128, .f32⟩
  | 84 => ⟨S1x2048x16x128, .f32⟩
  | 85 => ⟨S1x2048x16x128, .f32⟩
  | 86 => ⟨S1x2048x16x1, .f32⟩
  | 87 => ⟨S1x2048x16x128, .f32⟩
  | 88 => ⟨S1x2048x16x128, .f32⟩
  | 89 => ⟨S1x2048x16x128, .f32⟩
  | 90 => ⟨S4x512x4x4x128, .f32⟩
  | 91 => ⟨S4x4x128x4x512, .f32⟩
  | 92 => ⟨S4x4x128x2048, .f32⟩
  | _ => ⟨S1x2048x16x128, .f32⟩

abbrev hbmTy (i : Nat) : BufTy := match i / 128 with
  | 0 => hbmTy0_0 i
  | 1 => hbmTy0_1 i
  | 2 => hbmTy0_2 i
  | _ => ⟨S1x2048x16x128, .f32⟩

abbrev bufTy : (tb : Table) → Fin (tcTables nBuf tb) → BufTy
  | .hbm, ⟨i, _⟩ => hbmTy i
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_c_19 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_c : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_c_0 : Ref sig .tc := ⟨.hbm, 141, rfl⟩
abbrev main_call2_v12 : Ref sig .tc := ⟨.hbm, 142, rfl⟩
abbrev main_call2_v13 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_21 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_v7 : Ref sig .tc := ⟨.hbm, 161, rfl⟩
abbrev main_call3_v8 : Ref sig .tc := ⟨.hbm, 162, rfl⟩
abbrev main_call3_c : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_0 : Ref sig .tc := ⟨.hbm, 167, rfl⟩
abbrev main_call3_v12 : Ref sig .tc := ⟨.hbm, 168, rfl⟩
abbrev main_call3_v13 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_c_22 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_23 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_values : Ref sig .tc := ⟨.hbm, 192, rfl⟩
abbrev main_indices : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v120 : Ref sig .tc := ⟨.hbm, 199, rfl⟩
abbrev main_cst_24 : Ref sig .tc := ⟨.hbm, 200, rfl⟩
abbrev main_v121 : Ref sig .tc := ⟨.hbm, 201, rfl⟩
abbrev main_cst_25 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_c_26 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_v6 : Ref sig .tc := ⟨.hbm, 213, rfl⟩
abbrev main_call5_v7 : Ref sig .tc := ⟨.hbm, 214, rfl⟩
abbrev main_call5_v8 : Ref sig .tc := ⟨.hbm, 215, rfl⟩
abbrev main_call5_c : Ref sig .tc := ⟨.hbm, 216, rfl⟩
abbrev main_call5_v9 : Ref sig .tc := ⟨.hbm, 217, rfl⟩
abbrev main_call5_v10 : Ref sig .tc := ⟨.hbm, 218, rfl⟩
abbrev main_call5_v11 : Ref sig .tc := ⟨.hbm, 219, rfl⟩
abbrev main_call5_c_0 : Ref sig .tc := ⟨.hbm, 220, rfl⟩
abbrev main_call5_v12 : Ref sig .tc := ⟨.hbm, 221, rfl⟩
abbrev main_call5_v13 : Ref sig .tc := ⟨.hbm, 222, rfl⟩
abbrev main_v125 : Ref sig .tc := ⟨.hbm, 223, rfl⟩
abbrev main_call6_c : Ref sig .tc := ⟨.hbm, 224, rfl⟩
abbrev main_call6_v0 : Ref sig .tc := ⟨.hbm, 225, rfl⟩
abbrev main_call6_v1 : Ref sig .tc := ⟨.hbm, 226, rfl⟩
abbrev main_call6_c_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_c_1 : Ref sig .tc := ⟨.hbm, 232, rfl⟩
abbrev main_call6_c_2 : Ref sig .tc := ⟨.hbm, 233, rfl⟩
abbrev main_call6_v6 : Ref sig .tc := ⟨.hbm, 234, rfl⟩
abbrev main_call6_v7 : Ref sig .tc := ⟨.hbm, 235, rfl⟩
abbrev main_call6_v8 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_c_3 : Ref sig .tc := ⟨.hbm, 240, rfl⟩
abbrev main_call6_v12 : Ref sig .tc := ⟨.hbm, 241, rfl⟩
abbrev main_call6_v13 : Ref sig .tc := ⟨.hbm, 242, rfl⟩
abbrev main_call6_v14 : Ref sig .tc := ⟨.hbm, 243, rfl⟩
abbrev main_call6_c_4 : Ref sig .tc := ⟨.hbm, 244, rfl⟩
abbrev main_call6_v15 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_cst_27 : Ref sig .tc := ⟨.hbm, 265, rfl⟩
abbrev main_call7_v0 : Ref sig .tc := ⟨.hbm, 266, rfl⟩
abbrev main_call7_v1 : Ref sig .tc := ⟨.hbm, 267, rfl⟩
abbrev main_v145 : Ref sig .tc := ⟨.hbm, 268, rfl⟩
abbrev main_cst_28 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_cst_29 : Ref sig .tc := ⟨.hbm, 275, rfl⟩
abbrev main_call8_v0 : Ref sig .tc := ⟨.hbm, 276, rfl⟩
abbrev main_call8_v1 : Ref sig .tc := ⟨.hbm, 277, rfl⟩
abbrev main_v151 : Ref sig .tc := ⟨.hbm, 278, rfl⟩
abbrev main_cst_30 : Ref sig .tc := ⟨.hbm, 279, rfl⟩
abbrev main_v152 : Ref sig .tc := ⟨.hbm, 280, rfl⟩
abbrev main_v153 : Ref sig .tc := ⟨.hbm, 281, rfl⟩
abbrev main_cst_31 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_v163 : Ref sig .tc := ⟨.hbm, 292, rfl⟩
abbrev main_v164 : Ref sig .tc := ⟨.hbm, 293, rfl⟩
abbrev main_v165 : Ref sig .tc := ⟨.hbm, 294, rfl⟩
abbrev main_c_32 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_cst_33 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_v170 : Ref sig .tc := ⟨.hbm, 304, rfl⟩
abbrev main_cst_34 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_cst_35 : Ref sig .tc := ⟨.hbm, 311, rfl⟩
abbrev main_call10_v0 : Ref sig .tc := ⟨.hbm, 312, rfl⟩
abbrev main_call10_v1 : Ref sig .tc := ⟨.hbm, 313, rfl⟩
abbrev main_call10_v2 : Ref sig .tc := ⟨.hbm, 314, rfl⟩
abbrev main_v176 : Ref sig .tc := ⟨.hbm, 315, rfl⟩
abbrev main_cst_36 : Ref sig .tc := ⟨.hbm, 316, rfl⟩
abbrev main_v177 : Ref sig .tc := ⟨.hbm, 317, rfl⟩
abbrev main_v178 : Ref sig .tc := ⟨.hbm, 318, rfl⟩
abbrev main_cst_37 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_cst_38 : Ref sig .tc := ⟨.hbm, 329, rfl⟩
abbrev main_v188 : Ref sig .tc := ⟨.hbm, 330, rfl⟩
abbrev main_v189 : Ref sig .tc := ⟨.hbm, 331, rfl⟩
abbrev main_cst_39 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_v205 : Ref sig .tc := ⟨.hbm, 348, rfl⟩

abbrev nD : Nat := 1
abbrev τ : Topo := Topo.v7x

variable {F : FTy → Type} [FloatOps F]
-- ==== Proof.Frames.lean ====
/- The frames of the three programs and the constants' ledger of the idealized kernel. -/
module

public import proofs.«01_k».proof.Proof.Gen.Pre_own_scores_moderate
public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel as printed runs, leaves its arguments as they were and every counter at zero. -/
theorem frame_kernel : Cert.quiescent_Kernel (hKernel := Cert.Kernel.Gen.facts) :=
  fun m ρ _ => Cert.Kernel.Gen.frame m ρ

/-- The same of the kernel over the extended reals. -/
theorem frame_kernelIdeal : Cert.quiescent_KernelIdeal (hKernelIdeal := Cert.KernelIdeal.Gen.facts) :=
  fun m ρ _ => Cert.KernelIdeal.Gen.frame m ρ

/-- The same of the reference over the extended reals. -/
theorem frame_referenceIdeal : Cert.quiescent_ReferenceIdeal (hReferenceIdeal := Cert.ReferenceIdeal.Gen.facts) :=
  fun m ρ _ =>
    (θ_run Cert.ReferenceIdeal.defs _ _).mono (fun r h => ⟨fun c => (h c).2,
        Idealize.ShloMosaic.sem_eq_zero_of_no_sems (by decide) r.2⟩)
      (Cert.ReferenceIdeal.Value.run (F := Ideal) m ρ)

/-- The same from the memories that satisfy the precondition of the value claim. -/
theorem frame_referenceIdeal_pre : Cert.quiescent_ReferenceIdeal_pre_own_scores_moderate
    (hReferenceIdeal := Cert.ReferenceIdeal.Gen.facts) (hPre_own_scores_moderate := Cert.Pre_own_scores_moderate.Gen.facts) :=
  fun m ρ _ => frame_referenceIdeal m ρ trivial

/-- The three constants the idealized kernel names: the mask `-1e30` read as `-∞`, the scale `1/√128`, and the scale
    `1/(√128 · log 2)` of the base-two exponentials. -/
theorem preserves : Cert.preserves_Kernel_KernelIdeal :=
  ⟨IdealRules.named_const.statement Cert.KernelIdeal.κ "mask" .f32 0xF149F2CA#32 ⊥ rfl,
   IdealRules.named_const.statement Cert.KernelIdeal.κ "s" .f32 0x3DB504F3#32 (((Real.sqrt 128)⁻¹ : ℝ) : EReal) rfl,
   IdealRules.named_const.statement Cert.KernelIdeal.κ "s2" .f32 0x3E0293EE#32
     (((Real.sqrt 128)⁻¹ * (Real.log 2)⁻¹ : ℝ) : EReal) rfl⟩

end Cert.Proof

end
-- ==== Proof.Open.lean ====
module
public import proofs.«01_k».proof.Proof.Gen.KernelIdeal.Value
public import Idealize.ShloMosaic.Lib.Pipeline.ValueKit
public import Idealize.ShloMosaic.Lib.Pipeline.ReadBack

/-!
# What the kernel's body leaves at a point of the grid, in its own operations
-/

@[expose] public section
set_option maxRecDepth 65536
noncomputable section
open Idealize.ShloMosaic Idealize.SL.Sem
namespace Cert.Proof
open Cert.KernelIdeal Cert.KernelIdeal.Gen

/-- Sums by block and token, -/
abbrev Wt := FVec Ideal S32x512 .f32
/-- bits, -/
abbrev Bt := IVec S32x512 1
/-- and words. -/
abbrev It := IVec S32x512 32

/-- The blocks' numbers. -/
def nnS : IVec S32x1 32 := iota .tc S32x1 32 [0] iota_S32x1_d0_w32

/-- The compressed windows' numbers. -/
def mmS : IVec S128x1 32 := iota .tc S128x1 32 [0] iota_S128x1_d0_w32

/-- The tokens' numbers within a chunk of keys. -/
def jjS : IVec S512x1 32 := iota .tc S512x1 32 [0] iota_S512x1_d0_w32

/-- The group of queries, as a word. -/
def qjW (i : grid0.Coords) : BitVec 32 := BitVec.ofNat 32 (i 1).val

/-- The chunk of keys that holds the group's own tokens, as a word. -/
def cW (i : grid0.Coords) : BitVec 32 :=
  Scalar.select (Scalar.andi
      (Scalar.cmpi .ne
        (Scalar.subi (Scalar.extui (Scalar.cmpi .sgt (Scalar.muli 512#32 (qjW i)) 0#32))
          (Scalar.extui (Scalar.cmpi .slt (Scalar.muli 512#32 (qjW i)) 0#32)))
        (Scalar.subi (Scalar.extui (Scalar.cmpi .sgt 512#32 0#32)) (Scalar.extui (Scalar.cmpi .slt 512#32 0#32))))
      (Scalar.cmpi .ne (Scalar.remsi (Scalar.muli 512#32 (qjW i)) 512#32) 0#32))
    (Scalar.subi (Scalar.divsi (Scalar.muli 512#32 (qjW i)) 512#32) 1#32) (Scalar.divsi (Scalar.muli 512#32 (qjW i)) 512#32)

section
variable (i : grid0.Coords) (x0 : Vec Ideal S1x4x512x128 .f32) (x14 : Vec Ideal S32x128 .f32) (cks cvs : Vec Ideal S128x128 .bf16)

/-- The compressed branch, -/
def outC : FVec Ideal S128x2048 .f32 := k0_pay12 (k0_pay7 i) (k0_pay8 x0 cks) mmS k0_pay9 (k0_pay10 i) cvs

/-- and the scores of the blocks. -/
def selW : Wt := k0_pay14 (qjW i) (k0_pay13 (k0_pay8 x0 cks) mmS k0_pay9 (k0_pay10 i) x14) nnS 8#32

end

/-- The blocks' numbers over the queries' columns, and a number above them. -/
def nnB : It := broadcastTo S32x512 (shapeCast S32x1 nnS shapeCasts_S32x1_S32x1) broadcasts_S32x1_S32x512
/-- One past the last block. -/
def s32 : It := broadcast S32x512 32#32

section
variable (w : Wt)

/-- The entries that reach their column's maximum, -/
def eqV : Bt := cmpf .oeq w (broadcastTo S32x512 (shapeCast S1x512
  (multiReduction .maximumf [0] S512 w 0xFF800000#32 reduces_S32x512_S512 (.inl rfl) rfl) shapeCasts_S512_S1x512) broadcasts_S1x512_S32x512)

/-- of those the first, -/
def firstV : Bt := cmpi .eq (broadcastTo S32x512 nnS broadcasts_S32x1_S32x512) (broadcastTo S32x512 (shapeCast S1x512
  (multiReductionI .minsi [0] S512 (select (eqV w) nnB s32) 2147483647#32 reduces_S32x512_S512 rfl) shapeCasts_S512_S1x512)
  broadcasts_S1x512_S32x512)

/-- and the entries with the first maximum of each column taken out. -/
def knockV : Wt := select (firstV w) (broadcast S32x512 (Scalar.ofBits (F := Ideal) .f32 0xFF800000#32)) w

/-- The entries after some rounds, -/
def wV : ℕ → Wt
  | 0 => w
  | k + 1 => knockV (wV k)

/-- and what the rounds have picked. -/
def pV : ℕ → Bt
  | 0 => broadcast S32x512 0#1
  | k + 1 => ori (pV k) (firstV (wV w k))

end

variable (m : (ℓ : Loc nD τ sig) → Buf (Elt Ideal) ℓ) (c : Dev nD)

/-- The pair of sums after the loop over the earlier chunks of the selected branch, -/
def stSel (t : Fin cfg0.N) (x0 : Vec Ideal S1x4x512x128 .f32) (x1 x2 : Vec Ideal S1x2048x128 .bf16) (x13 : Vec Ideal S2048x32 .bf16)
    (p e : Bt) (init : FVec Ideal S1x2048 .f32 × FVec Ideal S128x2048 .f32) : ℕ → FVec Ideal S1x2048 .f32 × FVec Ideal S128x2048 .f32 :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (qjW (grid0.coords t)) (k0_pay6 x0) nnS p e nnB s32
    ((hs0_1 t).unread x1) ((hs0_2 t).unread x2) ((hs0_13 t).unread x13) init
/-- The selected branch's loop as the run spells it, -/
def stSel' (t : Fin cfg0.N) (x0 : Vec Ideal S1x4x512x128 .f32) (x1 x2 : Vec Ideal S1x2048x128 .bf16) (x13 : Vec Ideal S2048x32 .bf16)
    (p e : Bt) (init : FVec Ideal S1x2048 .f32 × FVec Ideal S128x2048 .f32) : ℕ → FVec Ideal S1x2048 .f32 × FVec Ideal S128x2048 .f32 :=
  st_k0_t2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (qjW (grid0.coords t)) (k0_pay6 x0) nnS p e nnB s32
    ((hs0_1 t).unread x1) ((hs0_2 t).unread x2) ((hs0_13 t).unread x13) init

/-- and of the windowed branch. -/
def stWin (t : Fin cfg0.N) (x0 : Vec Ideal S1x4x512x128 .f32) (x1 x2 : Vec Ideal S1x2048x128 .bf16)
    (p e : Bt) (init : FVec Ideal S1x2048 .f32 × FVec Ideal S128x2048 .f32) : ℕ → FVec Ideal S1x2048 .f32 × FVec Ideal S128x2048 .f32 :=
  st_k0_t3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (k0_pay6 x0) (k0_pay7 (grid0.coords t))
    (k0_pay68 nnS p e nnB s32) k0_pay69 k0_pay70 (cW (grid0.coords t)) jjS (Scalar.subi (cW (grid0.coords t)) 1#32) 0#32
    ((hs0_1 t).unread x1) ((hs0_2 t).unread x2) init
/-- and the windowed branch's. -/
def stWin' (t : Fin cfg0.N) (x0 : Vec Ideal S1x4x512x128 .f32) (x1 x2 : Vec Ideal S1x2048x128 .bf16)
    (p e : Bt) (init : FVec Ideal S1x2048 .f32 × FVec Ideal S128x2048 .f32) : ℕ → FVec Ideal S1x2048 .f32 × FVec Ideal S128x2048 .f32 :=
  st_k0_t4 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (k0_pay6 x0) (k0_pay7 (grid0.coords t))
    (k0_pay68 nnS p e nnB s32) k0_pay69 k0_pay70 (cW (grid0.coords t)) jjS (Scalar.subi (cW (grid0.coords t)) 1#32) 0#32
    ((hs0_1 t).unread x1) ((hs0_2 t).unread x2) init

/-- The pair of sums of the selected branch over the chunks before the group's own. -/
def sumSel (t : Fin cfg0.N) (x0 : Vec Ideal S1x4x512x128 .f32) (x1 x2 : Vec Ideal S1x2048x128 .bf16) (x13 : Vec Ideal S2048x32 .bf16)
    (p e : Bt) : FVec Ideal S1x2048 .f32 × FVec Ideal S128x2048 .f32 :=
  stSel' c t x0 x1 x2 x13 p e (stSel c t x0 x1 x2 x13 p e (k0_pay69, k0_pay70) (k0_t1_loop (grid0.coords t)).trips)
    (k0_t2_loop (grid0.coords t)).trips

/-- The pair of sums of the windowed branch over the chunk before the group's own. -/
def sumWin (t : Fin cfg0.N) (x0 : Vec Ideal S1x4x512x128 .f32) (x1 x2 : Vec Ideal S1x2048x128 .bf16)
    (p e : Bt) : FVec Ideal S1x2048 .f32 × FVec Ideal S128x2048 .f32 :=
  stWin' c t x0 x1 x2 p e (stWin c t x0 x1 x2 p e (k0_pay69, k0_pay70) (k0_t3_loop (grid0.coords t)).trips)
    (k0_t4_loop (grid0.coords t)).trips

/-- The block that the body writes, from the two branches' sums, the input blocks and the compressed keys' and values' blocks. -/
def final (t : Fin cfg0.N) (x0 : Vec Ideal S1x4x512x128 .f32) (x1 x2 : Vec Ideal S1x2048x128 .bf16) (x12 : Vec Ideal S128x8 .bf16)
    (x13 : Vec Ideal S2048x32 .bf16) (oc : FVec Ideal S128x2048 .f32) (p e : Bt) : Vec Ideal S1x1x128x2048 .f32 :=
  have i := grid0.coords t
  have ld1 := View.ld x1 (Rect.unit (s := S1x2048x128) (k0_off7 i) S1x512x128.size (k0_off7_inb i))
  have ld2 := View.ld x2 (Rect.unit (s := S1x2048x128) (k0_off7 i) S1x512x128.size (k0_off7_inb i))
  have ld13 := View.ld x13 (Rect.unit (s := S2048x32) (k0_off8 i) S512x32.size (k0_off8_inb i))
  have bb := k0_pay68 nnS p e nnB s32
  k0_pay87 (k0_pay6 x0) oc (sumSel c t x0 x1 x2 x13 p e).1 (sumSel c t x0 x1 x2 x13 p e).2
    (sumWin c t x0 x1 x2 p e).1 (sumWin c t x0 x1 x2 p e).2 (k0_pay83 ld2)
    (k0_pay84 (k0_pay6 x0) (k0_pay7 i) (cW i) jjS ld1) (k0_pay85 (k0_pay6 x0) (k0_pay7 i) bb (cW i) jjS ld1 ld13)
    (k0_pay86 (k0_pay6 x0) (k0_pay7 i) bb (cW i) jjS ld1 ld13) x12

/-- The block that the body writes, from the input blocks and the compressed keys' and values' blocks. -/
def written (t : Fin cfg0.N) (cks cvs : Vec Ideal S128x128 .bf16) : Vec Ideal S1x1x128x2048 .f32 :=
  final c t (iblk m c 0 t) (iblk m c 1 t) (iblk m c 2 t) (iblk m c 12 t) (iblk m c 13 t)
    (outC (grid0.coords t) (iblk m c 0 t) cks cvs)
    (pV (selW (grid0.coords t) (iblk m c 0 t) (iblk m c 14 t) cks) 15)
    (eqV (wV (selW (grid0.coords t) (iblk m c 0 t) (iblk m c 14 t) cks) 15))

section
variable (t : Fin cfg0.N) (arg18 : Memref sig .tc .vmem S128x128 .bf16) (harg18 : arg18.IsWhole)
  (arg19 : Memref sig .tc .vmem S128x128 .bf16) (harg19 : arg19.IsWhole) (x0 : Vec Ideal S1x4x512x128 .f32) (x14 : Vec Ideal S32x128 .f32) (xs0 xs1 : Vec Ideal S128x128 .bf16)

/-- The later groups' payloads, from the blocks: the queries, -/
theorem v6_B : kernelRun0_B.sl.v6 c (ms0_0 t) (hs0_0 t) x0 = k0_pay6 x0 := by
  unfold kernelRun0_B.sl.v6 kernelRun0_B.sl.v5 kernelRun0_B.sl.v4
  simp (disch := decide) only [View.readAt_eq_ld, Memref.IsWhole.read_unread, View.ld_unit_lit']
  rfl

/-- the products with the compressed keys, -/
theorem v28_B : kernelRun0_B.sl.v28 c (ms0_0 t) (hs0_0 t) arg18 harg18 x0 xs0 = k0_pay8 x0 xs0 := by
  unfold kernelRun0_B.sl.v28
  rw [v6_B]
  simp (disch := decide) only [View.readAt_eq_ld, Memref.IsWhole.read_unread, View.ld_unit_lit']
  rfl

/-- the blocks' sums, -/
theorem v119_B : kernelRun0_B.sl.v119 c (grid0.coords t) (ms0_0 t) (hs0_0 t) (ms0_14 t) (hs0_14 t) arg18 harg18 x0 x14 xs0 = selW (grid0.coords t) x0 x14 xs0 := by
  unfold kernelRun0_B.sl.v119 kernelRun0_B.sl.r_1
  rw [v28_B]
  simp (disch := decide) only [View.readAt_eq_ld, Memref.IsWhole.read_unread, View.ld_unit_lit']
  rfl

/-- the blocks picked, -/
theorem v358_B : kernelRun0_B.sl.v358 c (grid0.coords t) (ms0_0 t) (hs0_0 t) (ms0_14 t) (hs0_14 t) arg18 harg18 x0 x14 xs0 = pV (selW (grid0.coords t) x0 x14 xs0) 15 := by
  rw [← v119_B]
  rfl

/-- the last candidates, -/
theorem v364_B : kernelRun0_B.sl.v364 c (grid0.coords t) (ms0_0 t) (hs0_0 t) (ms0_14 t) (hs0_14 t) arg18 harg18 x0 x14 xs0 = eqV (wV (selW (grid0.coords t) x0 x14 xs0) 15) := by
  rw [← v119_B]
  rfl

/-- and the compressed branch. -/
theorem r_B : kernelRun0_B.sl.r c (grid0.coords t) (ms0_0 t) (hs0_0 t) arg18 harg18 arg19 harg19 x0 xs0 xs1
    = outC (grid0.coords t) x0 xs0 xs1 := by
  unfold kernelRun0_B.sl.r
  rw [v28_B]
  simp (disch := decide) only [View.readAt_eq_ld, Memref.IsWhole.read_unread, View.ld_unit_lit']
  rfl

end

/-- What a later group of a head writes and carries. -/
theorem opened_B (t : Fin cfg0.N) (h0 : ¬ t.val % 4 = 0) (cks cvs : Vec Ideal S128x128 .bf16)
    (hk : (outsAt0 (F := Ideal) m c (t.val - 1) (lt_of_le_of_lt (Nat.sub_le _ _) t.isLt)).2.1 = cks)
    (hv : (outsAt0 (F := Ideal) m c (t.val - 1) (lt_of_le_of_lt (Nat.sub_le _ _) t.isLt)).2.2 = cvs) :
    outsAt0 (F := Ideal) m c t.val t.isLt = (written m c t cks cvs, cks, cvs) := by
  rw [outsAt0_B m c t h0]
  refine Prod.ext ?_ (Prod.ext ?_ ?_)
  · dsimp only
    rw [hk, hv]
    unfold out0_B_15 kernelRun0_B
    dsimp only
    simp (disch := decide) only [View.read_writes_junk_eq_canon, View.canon_cons_unit_lit',
        View.ld_unit_lit', View.readAt_eq_ld, Memref.IsWhole.read_unread]
    unfold kernelRun0_B.sl.r_3 kernelRun0_B.sl.r_4 kernelRun0_B.sl.r_5 kernelRun0_B.sl.r_6 kernelRun0_B.sl.r_7 kernelRun0_B.sl.r_8
      kernelRun0_B.sl.r_9 kernelRun0_B.sl.r_10 kernelRun0_B.sl.r_2
    simp only [v6_B, v358_B, v364_B, r_B, View.readAt_eq_ld, Memref.IsWhole.read_unread]
    rfl
  · exact hk
  · exact hv

section
variable (t : Fin cfg0.N) (arg18 : Memref sig .tc .vmem S128x128 .bf16) (arg19 : Memref sig .tc .vmem S128x128 .bf16)
  (x0 : Vec Ideal S1x4x512x128 .f32) (x14 : Vec Ideal S32x128 .f32) (x3 x4 x5 x6 : Vec Ideal S1x2048x128 .bf16)
  (x7 x8 x9 x10 : Vec Ideal S128x2048 .bf16) (x11 : Vec Ideal S8x128 .f32)

/-- The compressed keys' block, from the input blocks, -/
def ckS : Vec Ideal S128x128 .bf16 :=
  k0_pay4 (k0_pay3 (View.ld x11 (Rect.unit (s := S8x128) ![0, 0] S1x1.size inb_S8x128_S1x1_0_0)) x7 x3 x8 x4)

/-- and the compressed values'. -/
def cvS : Vec Ideal S128x128 .bf16 :=
  k0_pay5 (k0_pay1 (View.ld x11 (Rect.unit (s := S8x128) ![1, 0] S1x1.size inb_S8x128_S1x1_1_0))) (k0_pay2 x9 x5 x10 x6)

/-- The first group's payloads, from the blocks: the compressed keys, -/
theorem v517_A : kernelRun0_A.sl.v517 c (ms0_3 t) (hs0_3 t) (ms0_4 t) (hs0_4 t) (ms0_7 t) (hs0_7 t) (ms0_8 t) (hs0_8 t) (ms0_11 t) (hs0_11 t) x3 x4 x7 x8 x11 = ckS x3 x4 x7 x8 x11 := by
  unfold kernelRun0_A.sl.v517 kernelRun0_A.sl.v514 kernelRun0_A.sl.v513 kernelRun0_A.sl.v500
    kernelRun0_A.sl.v512 kernelRun0_A.sl.v487 kernelRun0_A.sl.v494 kernelRun0_A.sl.v499
    kernelRun0_A.sl.v496 kernelRun0_A.sl.v498 kernelRun0_A.sl.cst_156 kernelRun0_A.sl.v491
    kernelRun0_A.sl.v493
  simp (disch := decide) only [View.readAt_eq_ld, Memref.IsWhole.read_unread, View.ld_unit_lit']
  rfl

/-- the compressed values, -/
theorem v523_A : kernelRun0_A.sl.v523 c (ms0_5 t) (hs0_5 t) (ms0_6 t) (hs0_6 t) (ms0_9 t) (hs0_9 t) (ms0_10 t) (hs0_10 t) (ms0_11 t) (hs0_11 t) x5 x6 x9 x10 x11 = cvS x5 x6 x9 x10 x11 := by
  unfold kernelRun0_A.sl.v523 kernelRun0_A.sl.v520 kernelRun0_A.sl.v519 kernelRun0_A.sl.v511
    kernelRun0_A.sl.v518 kernelRun0_A.sl.v489 kernelRun0_A.sl.v505 kernelRun0_A.sl.v510
    kernelRun0_A.sl.v507 kernelRun0_A.sl.v509 kernelRun0_A.sl.cst_156 kernelRun0_A.sl.v502
    kernelRun0_A.sl.v504
  simp (disch := decide) only [View.readAt_eq_ld, Memref.IsWhole.read_unread, View.ld_unit_lit']
  rfl

/-- the keys as read back, -/
theorem v27_A : kernelRun0_A.sl.v27 c (ms0_3 t) (hs0_3 t) (ms0_4 t) (hs0_4 t) (ms0_7 t) (hs0_7 t) (ms0_8 t) (hs0_8 t) (ms0_11 t) (hs0_11 t) arg18 x3 x4 x7 x8 x11 = ckS x3 x4 x7 x8 x11 := by
  unfold kernelRun0_A.sl.v27 kernelRun0_A.sl.HS0_1
  simp (disch := decide) only [View.readCov_unit_lit', v517_A]

/-- the values as read back, -/
theorem v60_A : kernelRun0_A.sl.v60 c (ms0_5 t) (hs0_5 t) (ms0_6 t) (hs0_6 t) (ms0_9 t) (hs0_9 t) (ms0_10 t) (hs0_10 t) (ms0_11 t) (hs0_11 t) arg19 x5 x6 x9 x10 x11 = cvS x5 x6 x9 x10 x11 := by
  unfold kernelRun0_A.sl.v60 kernelRun0_A.sl.HS1_1
  simp (disch := decide) only [View.readCov_unit_lit', v523_A]

/-- the queries, -/
theorem v6_A : kernelRun0_A.sl.v6 c (ms0_0 t) (hs0_0 t) x0 = k0_pay6 x0 := by
  unfold kernelRun0_A.sl.v6 kernelRun0_A.sl.v5 kernelRun0_A.sl.v4
  simp (disch := decide) only [View.readAt_eq_ld, Memref.IsWhole.read_unread, View.ld_unit_lit']
  rfl

/-- the products with the compressed keys, -/
theorem v28_A : kernelRun0_A.sl.v28 c (ms0_0 t) (hs0_0 t) (ms0_3 t) (hs0_3 t) (ms0_4 t) (hs0_4 t) (ms0_7 t) (hs0_7 t) (ms0_8 t) (hs0_8 t) (ms0_11 t) (hs0_11 t) arg18 x0 x3 x4 x7 x8 x11 = k0_pay8 x0 (ckS x3 x4 x7 x8 x11) := by
  unfold kernelRun0_A.sl.v28
  rw [v6_A, v27_A]
  rfl

/-- the blocks' sums, -/
theorem v119_A : kernelRun0_A.sl.v119 c (grid0.coords t) (ms0_0 t) (hs0_0 t) (ms0_3 t) (hs0_3 t) (ms0_4 t) (hs0_4 t) (ms0_7 t) (hs0_7 t) (ms0_8 t) (hs0_8 t) (ms0_11 t) (hs0_11 t) (ms0_14 t) (hs0_14 t) arg18 x0 x3 x4 x7 x8 x11 x14 = selW (grid0.coords t) x0 x14 (ckS x3 x4 x7 x8 x11) := by
  unfold kernelRun0_A.sl.v119 kernelRun0_A.sl.r_2
  rw [v28_A]
  simp (disch := decide) only [View.readAt_eq_ld, Memref.IsWhole.read_unread, View.ld_unit_lit']
  rfl

/-- the blocks picked, -/
theorem v358_A : kernelRun0_A.sl.v358 c (grid0.coords t) (ms0_0 t) (hs0_0 t) (ms0_3 t) (hs0_3 t) (ms0_4 t) (hs0_4 t) (ms0_7 t) (hs0_7 t) (ms0_8 t) (hs0_8 t) (ms0_11 t) (hs0_11 t) (ms0_14 t) (hs0_14 t) arg18 x0 x3 x4 x7 x8 x11 x14 = pV (selW (grid0.coords t) x0 x14 (ckS x3 x4 x7 x8 x11)) 15 := by
  rw [← v119_A c t arg18]
  rfl

/-- the last candidates, -/
theorem v364_A : kernelRun0_A.sl.v364 c (grid0.coords t) (ms0_0 t) (hs0_0 t) (ms0_3 t) (hs0_3 t) (ms0_4 t) (hs0_4 t) (ms0_7 t) (hs0_7 t) (ms0_8 t) (hs0_8 t) (ms0_11 t) (hs0_11 t) (ms0_14 t) (hs0_14 t) arg18 x0 x3 x4 x7 x8 x11 x14 = eqV (wV (selW (grid0.coords t) x0 x14 (ckS x3 x4 x7 x8 x11)) 15) := by
  rw [← v119_A c t arg18]
  rfl

/-- and the compressed branch. -/
theorem r_A : kernelRun0_A.sl.r_1 c (grid0.coords t) (ms0_0 t) (hs0_0 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) arg18 arg19 x0 x3 x4 x5 x6 x7 x8 x9 x10 x11
    = outC (grid0.coords t) x0 (ckS x3 x4 x7 x8 x11) (cvS x5 x6 x9 x10 x11) := by
  unfold kernelRun0_A.sl.r_1
  rw [v28_A, v60_A]
  rfl

end

/-- The compressed keys' block at a point that computes it, -/
def ckAt (t : Fin cfg0.N) : Vec Ideal S128x128 .bf16 :=
  ckS (iblk m c 3 t) (iblk m c 4 t) (iblk m c 7 t) (iblk m c 8 t) (iblk m c 11 t)

/-- and the compressed values'. -/
def cvAt (t : Fin cfg0.N) : Vec Ideal S128x128 .bf16 :=
  cvS (iblk m c 5 t) (iblk m c 6 t) (iblk m c 9 t) (iblk m c 10 t) (iblk m c 11 t)

/-- What the first group of a head writes and carries. -/
theorem opened_A (t : Fin cfg0.N) (h0 : t.val % 4 = 0) :
    outsAt0 (F := Ideal) m c t.val t.isLt = (written m c t (ckAt m c t) (cvAt m c t), ckAt m c t, cvAt m c t) := by
  rw [outsAt0_A m c t h0]
  refine Prod.ext ?_ (Prod.ext ?_ ?_)
  · dsimp only
    unfold out0_A_15 kernelRun0_A
    dsimp only
    simp (disch := decide) only [View.read_writes_junk_eq_canon, View.canon_cons_unit_lit',
        View.ld_unit_lit', View.readAt_eq_ld, Memref.IsWhole.read_unread]
    unfold kernelRun0_A.sl.r_4 kernelRun0_A.sl.r_5 kernelRun0_A.sl.r_6 kernelRun0_A.sl.r_7 kernelRun0_A.sl.r_8
      kernelRun0_A.sl.r_9 kernelRun0_A.sl.r_10 kernelRun0_A.sl.r_11 kernelRun0_A.sl.r_3
    simp only [v6_A, v358_A, v364_A, r_A, View.readAt_eq_ld, Memref.IsWhole.read_unread]
    rfl
  · dsimp only
    unfold sout0_A_0 kernelRun0_A
    dsimp only
    unfold kernelRun0_A.sl.HS0_1
    simp (disch := decide) only [View.read_writes_junk_eq_canon, View.canon_cons_unit_lit', v517_A]
    rfl
  · dsimp only
    unfold sout0_A_1 kernelRun0_A
    dsimp only
    unfold kernelRun0_A.sl.HS1_1
    simp (disch := decide) only [View.read_writes_junk_eq_canon, View.canon_cons_unit_lit', v523_A]
    rfl

end Cert.Proof
-- ==== Proof.Softmax.lean ====
/- Extended-real mathematics of a masked softmax: with bounded scores, dividing by the plain sum of exponentials is the
   softmax shifted by its maximum. -/
module

public import Idealize.ShloMosaic.PureOps.Ideal
public import Mathlib.Analysis.SpecialFunctions.Pow.Real
public import Mathlib.Analysis.Complex.Exponential

@[expose] public section

noncomputable section

open Idealize.ShloMosaic

namespace Cert.Proof

/-- The small constant below which the kernel and the reference do not divide. -/
def tiny : EReal := Ideal.ofBits .f32 0x1E3CE508#32

/-- The small constant is a positive real, at most 10^-20. -/
theorem tiny_real : ∃ r : ℝ, tiny = (r : EReal) ∧ 0 < r ∧ r ≤ 1 / 10 ^ 20 := by
  refine ⟨12379400 / 2 ^ 90, ?_, by norm_num, by norm_num⟩
  unfold tiny
  simp [Ideal.ofBits, Ideal.ieee, -EReal.coe_mul]
  norm_num

/-- `e^-46` is at least 10^-20. -/
theorem exp_neg46 : (1 : ℝ) / 10 ^ 20 ≤ Real.exp (-46) := by
  rw [Real.exp_neg, one_div]
  have h1 : Real.exp 46 = Real.exp 1 ^ 46 := by rw [← Real.exp_nat_mul]; norm_num
  have h2 : Real.exp 1 ≤ 2.718282 := by
    refine (Real.exp_bound' (x := 1) (by norm_num) le_rfl (n := 12) (by norm_num)).trans ?_
    norm_num [Finset.sum_range_succ, Nat.factorial]
  have h3 : Real.exp 46 ≤ 10 ^ 20 := by
    rw [h1]
    calc Real.exp 1 ^ 46 ≤ (2.718282 : ℝ) ^ 46 := by
          apply pow_le_pow_left₀ (Real.exp_pos _).le h2
      _ ≤ 10 ^ 20 := by norm_num
  exact inv_anti₀ (Real.exp_pos _) h3

/-- The exponential of a real, -/
theorem exp_coe (r : ℝ) : Ideal.exp (r : EReal) = (Real.exp r : EReal) := rfl
/-- of minus infinity, -/
theorem exp_bot : Ideal.exp ⊥ = 0 := rfl
/-- and two to the power of minus infinity. -/
theorem exp2_bot : Ideal.exp2 ⊥ = 0 := rfl

/-- Division by a positive real is multiplication by its inverse. -/
theorem div_pos_real (x : EReal) (r : ℝ) (h : 0 < r) : Ideal.div x (r : EReal) = x * ((r⁻¹ : ℝ) : EReal) := by
  unfold Ideal.div
  rw [if_neg (by exact_mod_cast h.ne'), ← EReal.coe_inv]

/-- Zero divided by a positive real is zero. -/
theorem zero_div_real (r : ℝ) (h : 0 < r) : Ideal.div 0 (r : EReal) = 0 := by
  rw [div_pos_real _ _ h, zero_mul]

/-- A nonnegative real factor goes into a sum of extended reals. -/
theorem sum_mul_real {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

/-- A sum of reals, as an extended real. -/
theorem sum_coe {ι : Type} (s : Finset ι) (f : ι → ℝ) : (∑ i ∈ s, ((f i : ℝ) : EReal)) = ((∑ i ∈ s, f i : ℝ) : EReal) :=
  (map_sum (⟨⟨Real.toEReal, EReal.coe_zero⟩, EReal.coe_add⟩ : ℝ →+ EReal) f s).symm

/-- An exponential isn't negative. -/
theorem exp_nonneg' (x : EReal) : 0 ≤ Ideal.exp x := by
  induction x with
  | bot => exact le_rfl
  | coe x => exact EReal.coe_nonneg.mpr (Real.exp_pos x).le
  | top => exact le_top

/-- Where the greatest score is infinite, the sum of plain exponentials is infinite and every shifted one is zero: both
    sides are zero. -/
theorem softmax_top {n : ℕ} (x : Fin n → EReal) (M : Fin n → Prop) [DecidablePred M] (V : Fin n → EReal)
    (h : ∃ s, M s ∧ x s = ⊤) :
    Ideal.div (∑ s, V s * (if M s then Ideal.exp (x s) else 0)) (max (∑ s, if M s then Ideal.exp (x s) else 0) tiny)
      = ∑ s, Ideal.div (if M s then Ideal.exp (x s - ⊤) else 0)
          (max (∑ s, if M s then Ideal.exp (x s - ⊤) else 0) tiny) * V s := by
  obtain ⟨s₀, hM, hs⟩ := h
  obtain ⟨ε, hε, hε0, -⟩ := tiny_real
  have e0 : ∀ s, (if M s then Ideal.exp (x s - ⊤) else 0) = 0 := fun s => by
    split_ifs
    · rw [EReal.sub_top, exp_bot]
    · rfl
  have eT : (∑ s, if M s then Ideal.exp (x s) else 0) = ⊤ := by
    refine top_le_iff.mp (le_trans (le_of_eq ?_) (Finset.single_le_sum
      (f := fun s => if M s then Ideal.exp (x s) else 0) (fun s _ => ?_) (Finset.mem_univ s₀)))
    · rw [if_pos hM, hs]
      rfl
    · split_ifs
      · exact exp_nonneg' _
      · exact le_rfl
  simp only [e0, Finset.sum_const_zero]
  rw [eT, max_eq_left le_top, hε, max_eq_right (by exact_mod_cast hε0.le), zero_div_real _ hε0]
  unfold Ideal.div
  rw [if_neg EReal.top_ne_zero, EReal.inv_top, mul_zero]
  simp

/-- Where some score that the mask keeps is at least -46, the weighted sum of plain exponentials over their sum is the
    softmax shifted by the maximum, masked entries counting zero. -/
theorem softmax_eq {n : ℕ} (x : Fin n → EReal) (M : Fin n → Prop) [DecidablePred M] (V : Fin n → EReal) (mx : EReal)
    (hx : ∃ s, M s ∧ ((-46 : ℝ) : EReal) ≤ x s) (hmx : ∃ s, M s ∧ mx = x s) (hle : ∀ s, M s → x s ≤ mx) :
    Ideal.div (∑ s, V s * (if M s then Ideal.exp (x s) else 0)) (max (∑ s, if M s then Ideal.exp (x s) else 0) tiny)
      = ∑ s, Ideal.div (if M s then Ideal.exp (x s - mx) else 0)
          (max (∑ s, if M s then Ideal.exp (x s - mx) else 0) tiny) * V s := by
  obtain ⟨s₁, hs₁, h46⟩ := hx
  obtain ⟨s₀, hs₀, hμ⟩ := hmx
  have hm : ((-46 : ℝ) : EReal) ≤ mx := h46.trans (hle s₁ hs₁)
  induction mx with
  | bot => exact absurd (le_bot_iff.mp hm) (EReal.coe_ne_bot _)
  | top => exact softmax_top x M V ⟨s₀, hs₀, hμ.symm⟩
  | coe μ =>
    obtain ⟨ε, hε, hε0, hε1⟩ := tiny_real
    rw [hε]
    have he : ∀ s, ∃ e : ℝ, 0 ≤ e ∧ (if M s then Ideal.exp (x s) else 0) = (e : EReal)
        ∧ (if M s then Ideal.exp (x s - (μ : EReal)) else 0) = ((e * Real.exp (-μ) : ℝ) : EReal) := by
      intro s
      by_cases h : M s
      · simp only [if_pos h]
        have hl := hle s h
        generalize x s = y at hl
        induction y with
        | bot => exact ⟨0, le_rfl, rfl, by rw [EReal.bot_sub, exp_bot, zero_mul, EReal.coe_zero]⟩
        | coe y => exact ⟨Real.exp y, (Real.exp_pos y).le, rfl, by rw [← EReal.coe_sub, exp_coe, ← Real.exp_add]; rfl⟩
        | top => exact absurd (top_le_iff.mp hl) (EReal.coe_ne_top _)
      · exact ⟨0, le_rfl, by simp [h], by simp [h]⟩
    choose e hnn e1 e2 using he
    have e0 : e s₀ = Real.exp μ := by
      have := e1 s₀
      rw [if_pos hs₀, ← hμ, exp_coe] at this
      exact (EReal.coe_eq_coe_iff.mp this).symm
    simp only [e1, e2, sum_coe, ← EReal.coe_mul]
    rw [← Finset.sum_mul]
    set L : ℝ := ∑ s, e s with hL
    have hLs : Real.exp μ ≤ L := e0 ▸ Finset.single_le_sum (fun s _ => hnn s) (Finset.mem_univ s₀)
    have hL0 : 0 < L := lt_of_lt_of_le (Real.exp_pos _) hLs
    have hLε : ε ≤ L := le_trans hε1 (le_trans exp_neg46 (le_trans (Real.exp_le_exp.mpr (EReal.coe_le_coe_iff.mp hm)) hLs))
    have hL1 : (1 : ℝ) ≤ L * Real.exp (-μ) := by
      have := mul_le_mul_of_nonneg_right hLs (Real.exp_pos (-μ)).le
      rwa [← Real.exp_add, add_neg_cancel, Real.exp_zero] at this
    have hL1ε : ε ≤ L * Real.exp (-μ) := le_trans hε1 (le_trans (by norm_num) hL1)
    rw [max_eq_left (by exact_mod_cast hLε), max_eq_left (by exact_mod_cast hL1ε), div_pos_real _ _ hL0,
      sum_mul_real _ _ _ (inv_nonneg.mpr hL0.le)]
    refine Finset.sum_congr rfl fun s _ => ?_
    rw [div_pos_real _ _ (lt_of_lt_of_le one_pos hL1), ← EReal.coe_mul, mul_assoc, ← EReal.coe_mul, mul_comm (V s)]
    congr 2
    have := (Real.exp_pos (-μ)).ne'
    field_simp

end Cert.Proof

end
-- ==== Proof.Ranks.lean ====
/- The selection of the sixteen best blocks: repeatedly taking the first maximum and overwriting it with minus infinity
   picks the same set as the first sixteen positions of a stable descending sort. -/
module

public import Idealize.ShloMosaic.Lib.SortPrefix
public import Idealize.ShloMosaic.PureOps.Ideal

@[expose] public section

noncomputable section

open Idealize.ShloMosaic

namespace Cert.Proof

variable {n : ℕ}

/-- `a` is ahead of `b`: a greater value, or the same value at an earlier position. -/
def ahead (w : Fin n → EReal) (a b : Fin n) : Prop := w b < w a ∨ (w a = w b ∧ a < b)

/-- Position `a` is the first maximum of `w`. -/
def firstMax (w : Fin n → EReal) (a : Fin n) : Prop := (∀ b, w b ≤ w a) ∧ ∀ b, b < a → w b ≠ w a

open Classical in
/-- The values after the first maximum has been overwritten. -/
def knock (w : Fin n → EReal) : Fin n → EReal := fun a => if firstMax w a then ⊥ else w a

/-- The values after `j` rounds. -/
def knocked (w : Fin n → EReal) : ℕ → Fin n → EReal
  | 0 => w
  | j + 1 => knock (knocked w j)

/-- Position `a` has been picked in one of the first `j` rounds. -/
def picked (w : Fin n → EReal) : ℕ → Fin n → Prop
  | 0 => fun _ => False
  | j + 1 => fun a => picked w j a ∨ firstMax (knocked w j) a

/-- Being ahead is transitive, -/
theorem ahead_trans (w : Fin n → EReal) {a b c : Fin n} (h : ahead w a b) (h' : ahead w b c) : ahead w a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- total, -/
theorem ahead_total (w : Fin n → EReal) {a b : Fin n} (h : a ≠ b) : ahead w a b ∨ ahead w b a := by
  rcases lt_trichotomy (w a) (w b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- and irreflexive. -/
theorem ahead_irrefl (w : Fin n → EReal) (a : Fin n) : ¬ ahead w a a := by
  rintro (h | ⟨_, h⟩) <;> exact lt_irrefl _ h

/-- A nonempty row has a first maximum. -/
theorem exists_firstMax (w : Fin n → EReal) (hn : 0 < n) : ∃ a, firstMax w a := by
  classical
  haveI : Nonempty (Fin n) := ⟨⟨0, hn⟩⟩
  obtain ⟨m, hm⟩ := Finite.exists_max w
  let S : Finset (Fin n) := Finset.univ.filter fun a => w a = w m
  have hS : S.Nonempty := ⟨m, by simp [S]⟩
  have h1 : w (S.min' hS) = w m := (Finset.mem_filter.mp (S.min'_mem hS)).2
  refine ⟨S.min' hS, fun b => h1 ▸ hm b, fun b hb he => ?_⟩
  exact absurd (S.min'_le b (Finset.mem_filter.mpr ⟨Finset.mem_univ _, he.trans h1⟩)) (not_le.mpr hb)

/-- It has only one. -/
theorem firstMax_unique (w : Fin n → EReal) {a b : Fin n} (ha : firstMax w a) (hb : firstMax w b) : a = b := by
  have e : w a = w b := le_antisymm (hb.1 a) (ha.1 b)
  rcases lt_trichotomy a b with h | h | h
  · exact absurd e (hb.2 a h)
  · exact h
  · exact absurd e.symm (ha.2 b h)

/-- A set of positions is closed upward in the order of the values. -/
def Closed (w : Fin n → EReal) (S : Finset (Fin n)) : Prop := ∀ a b, ahead w a b → b ∈ S → a ∈ S

/-- Two upward-closed sets with the same number of members are equal. -/
theorem closed_unique (w : Fin n → EReal) {S T : Finset (Fin n)} (hS : Closed w S) (hT : Closed w T)
    (hc : S.card = T.card) : S = T := by
  by_cases h : S ⊆ T
  · exact Finset.eq_of_subset_of_card_le h hc.ge
  · obtain ⟨a, haS, haT⟩ := Finset.not_subset.mp h
    have h2 : T ⊆ S := fun b hb => by
      have hab : a ≠ b := fun e => haT (e ▸ hb)
      rcases ahead_total w hab with h3 | h3
      · exact absurd (hT a b h3 hb) haT
      · exact hS b a h3 haS
    exact (Finset.eq_of_subset_of_card_le h2 hc.le).symm

open Classical in
/-- After `j` rounds the picked positions are `j` in number and upward closed, and the values are the given ones, minus
    infinity where picked. -/
theorem picked_spec (w : Fin n → EReal) (hw : ∀ a, ⊥ < w a) : ∀ j ≤ n,
    (Finset.univ.filter (picked w j)).card = j ∧ Closed w (Finset.univ.filter (picked w j))
      ∧ ∀ a, knocked w j a = if picked w j a then ⊥ else w a := by
  intro j
  induction j with
  | zero =>
    intro _
    have e : Finset.univ.filter (picked w 0) = ∅ := Finset.filter_eq_empty_iff.mpr fun a _ h => h
    refine ⟨by rw [e]; rfl, fun a b _ hb => by rw [e] at hb; exact absurd hb (Finset.notMem_empty b), fun a => ?_⟩
    simp [picked, knocked]
  | succ j ih =>
    intro hj
    obtain ⟨hc, hcl, hv⟩ := ih (by omega)
    have hlt : (Finset.univ.filter (picked w j)).card < (Finset.univ : Finset (Fin n)).card := by
      rw [hc, Finset.card_univ, Fintype.card_fin]; omega
    obtain ⟨u, -, hu⟩ := Finset.exists_mem_notMem_of_card_lt_card hlt
    have hu' : ¬ picked w j u := fun h => hu (Finset.mem_filter.mpr ⟨Finset.mem_univ _, h⟩)
    obtain ⟨f, hf⟩ := exists_firstMax (knocked w j) (by omega)
    have hfn : ¬ picked w j f := by
      intro h
      have h1 := hf.1 u
      rw [hv u, hv f, if_pos h, if_neg hu'] at h1
      exact absurd h1 (not_le.mpr (hw u))
    have hiff : ∀ a, picked w (j + 1) a ↔ picked w j a ∨ a = f := fun a => by
      show (picked w j a ∨ firstMax (knocked w j) a) ↔ _
      constructor
      · rintro (h | h)
        · exact Or.inl h
        · exact Or.inr (firstMax_unique _ h hf)
      · rintro (h | rfl)
        · exact Or.inl h
        · exact Or.inr hf
    have hset : Finset.univ.filter (picked w (j + 1)) = insert f (Finset.univ.filter (picked w j)) := by
      ext a; simp only [Finset.mem_filter, Finset.mem_univ, true_and, Finset.mem_insert, hiff, or_comm]
    refine ⟨?_, ?_, ?_⟩
    · rw [hset, Finset.card_insert_of_notMem (by simpa using hfn), hc]
    · intro a b hab hb
      rw [hset, Finset.mem_insert] at hb ⊢
      rcases hb with rfl | hb
      · by_contra hna
        push Not at hna
        have hna' : ¬ picked w j a := by simpa using hna.2
        have h1 := hf.1 a
        have h2 := hf.2 a
        rw [hv a, hv b, if_neg hfn, if_neg hna'] at h1 h2
        rcases hab with h | ⟨h, h'⟩
        · exact absurd h1 (not_le.mpr h)
        · exact h2 h' h
      · exact Or.inr (hcl a b hab hb)
    · intro a
      show (if firstMax (knocked w j) a then ⊥ else knocked w j a) = _
      by_cases haf : a = f
      · subst haf
        rw [if_pos hf, if_pos ((hiff _).mpr (Or.inr rfl))]
      · rw [if_neg fun h => haf (firstMax_unique _ h hf), hv a]
        simp only [hiff, haf, or_false]

/-- The comparator of the reference's sort: a greater value first. -/
def gtB (w : Fin n → EReal) (a b : Fin n) : Bool := decide (w b < w a)

open Classical in
/-- The order `ahead` as a comparator. -/
def aheadB (w : Fin n → EReal) (a b : Fin n) : Bool := decide (ahead w a b)

/-- The order as a comparator. -/
theorem aheadB_total (w : Fin n → EReal) : StrictTotalBefore (aheadB w) where
  irrefl a := by simp [aheadB, ahead_irrefl]
  trans a b c h h' := by
    simp only [aheadB, decide_eq_true_eq] at *
    exact ahead_trans w h h'
  total a b h := by
    simp only [aheadB, decide_eq_true_eq]
    exact ahead_total w h

/-- The stable sort by value alone is the sort by value and position. -/
theorem stableSort_gtB (w : Fin n → EReal) : ∀ l : List (Fin n), l.Pairwise (· < ·) →
    stableSort (gtB w) l = stableSort (aheadB w) l := by
  have ins : ∀ (a : Fin n) (l : List (Fin n)), (∀ b ∈ l, a < b) →
      insertBefore (gtB w) a l = insertBefore (aheadB w) a l := by
    intro a l
    induction l with
    | nil => intro _; rfl
    | cons b l ih =>
      intro h
      have hb : a < b := h b (by simp)
      have e : gtB w b a = aheadB w b a := by
        unfold gtB aheadB ahead
        have : ¬ b < a := not_lt.mpr hb.le
        simp [this]
      unfold insertBefore
      rw [e, ih fun c hc => h c (by simp [hc])]
  intro l
  induction l with
  | nil => intro _; rfl
  | cons a l ih =>
    intro h
    have h' := List.pairwise_cons.mp h
    show insertBefore _ a (stableSort _ l) = insertBefore _ a (stableSort _ l)
    rw [ih h'.2]
    refine ins a _ fun b hb => h'.1 b ?_
    exact (perm_stableSort (aheadB w) l).mem_iff.mp hb

/-- The whole sorted row is the same. -/
theorem sortedFrom_gtB (w : Fin n → EReal) : sortedFrom (gtB w) = sortedFrom (aheadB w) := by
  have e : sortPositions n (gtB w) = sortPositions n (aheadB w) := stableSort_gtB w _ (List.pairwise_lt_finRange n)
  funext k
  unfold sortedFrom
  simp only [e, List.get_eq_getElem, Fin.val_cast]

open Classical in
/-- The first `k` positions of the sort are `k` in number and upward closed. -/
theorem sorted_spec (w : Fin n → EReal) {k : ℕ} (hk : k ≤ n) :
    (Finset.univ.filter fun a => ∃ j : Fin k, sortedFrom (gtB w) (j.castLE hk) = a).card = k
      ∧ Closed w (Finset.univ.filter fun a => ∃ j : Fin k, sortedFrom (gtB w) (j.castLE hk) = a) := by
  rw [sortedFrom_gtB]
  have hnd : (sortPositions n (aheadB w)).Nodup :=
    (perm_stableSort (aheadB w) (List.finRange n)).nodup_iff.mpr (List.nodup_finRange n)
  have hlen : (sortPositions n (aheadB w)).length = n := length_sortPositions n (aheadB w)
  have hinj : Function.Injective (sortedFrom (aheadB w)) := fun a b h => by
    have := (List.Nodup.get_inj_iff hnd).mp h
    exact Fin.ext (by simpa using congrArg Fin.val this)
  have hsurj : Function.Surjective (sortedFrom (aheadB w)) := Finite.injective_iff_surjective.mp hinj
  have hord : ∀ a b : Fin n, a < b → aheadB w (sortedFrom (aheadB w) b) (sortedFrom (aheadB w) a) = false := by
    intro a b hab
    exact List.pairwise_iff_get.mp ((aheadB_total w).sorted_stableSort (List.finRange n)) _ _ (Fin.lt_def.mpr (Fin.lt_def.mp hab))
  constructor
  · have e : (Finset.univ.filter fun a => ∃ j : Fin k, sortedFrom (aheadB w) (j.castLE hk) = a)
        = Finset.univ.image fun j : Fin k => sortedFrom (aheadB w) (j.castLE hk) := by
      ext a; simp
    rw [e, Finset.card_image_of_injective _ (fun a b h => Fin.castLE_injective hk (hinj h)), Finset.card_univ, Fintype.card_fin]
  · intro a b hab hb
    simp only [Finset.mem_filter, Finset.mem_univ, true_and] at hb ⊢
    obtain ⟨j, rfl⟩ := hb
    obtain ⟨p, rfl⟩ := hsurj a
    have hp : p ≤ j.castLE hk := by
      by_contra h
      have := hord _ _ (not_le.mp h)
      simp only [aheadB, decide_eq_false_iff_not] at this
      exact this hab
    exact ⟨⟨p.val, lt_of_le_of_lt (Fin.le_def.mp hp) j.isLt⟩, rfl⟩

/-- What `k` rounds pick is what the sort puts first. -/
theorem picked_iff (w : Fin n → EReal) (hw : ∀ a, ⊥ < w a) {k : ℕ} (hk : k ≤ n) (a : Fin n) :
    picked w k a ↔ ∃ j : Fin k, sortedFrom (gtB w) (j.castLE hk) = a := by
  classical
  obtain ⟨h1, h2, -⟩ := picked_spec w hw k hk
  obtain ⟨h3, h4⟩ := sorted_spec w hk
  have := closed_unique w h2 h4 (h1.trans h3.symm)
  have := congrArg (a ∈ ·) this
  simpa using this

/-- A position that only one other can be ahead of is in every closed set of more than one. -/
theorem mem_closed (w : Fin n → EReal) {S : Finset (Fin n)} (hS : Closed w S) (hc : 1 < S.card) {cur z : Fin n}
    (h : ∀ a, a ≠ cur → a ≠ z → w a < w cur) : cur ∈ S := by
  obtain ⟨a, ha, hz⟩ := Finset.exists_mem_ne hc z
  by_cases e : a = cur
  · exact e ▸ ha
  · exact hS cur a (Or.inl (h a e hz)) ha

/-- Such a position is among the first ones of the sorted row. -/
theorem among_best (w : Fin n → EReal) {k : ℕ} (hk : k ≤ n) (h1 : 1 < k) {cur z : Fin n}
    (h : ∀ a, a ≠ cur → a ≠ z → w a < w cur) : ∃ j : Fin k, sortedFrom (gtB w) (j.castLE hk) = cur := by
  classical
  obtain ⟨hc, hS⟩ := sorted_spec w hk
  exact (Finset.mem_filter.mp (mem_closed w hS (h1.trans_eq hc.symm) h)).2

end Cert.Proof

end
-- ==== Proof.Spec.lean ====
module
public import proofs.«01_k».proof.Proof.Softmax
public import proofs.«01_k».proof.Proof.Ranks

/-!
# The attention, written once at an index

Both programs are read down to the functions of this module: the compressed keys and values, the
masked softmax, the choice of sixteen blocks, the three branches and their gated sum. A token is
`t : Fin 2048`, a query head `g : Fin 16`, its key head `kv g : Fin 4`, a channel `d : Fin 128`.
-/

@[expose] public section
noncomputable section
open Idealize.ShloMosaic
namespace Cert.Proof

/-- The arguments by their coordinates. -/
structure Args where
  q : Fin 2048 → Fin 16 → Fin 128 → EReal
  k : Fin 2048 → Fin 4 → Fin 128 → EReal
  v : Fin 2048 → Fin 4 → Fin 128 → EReal
  wk : Fin 32 → EReal
  wv : Fin 32 → EReal
  pk : Fin 32 → Fin 128 → EReal
  pv : Fin 32 → Fin 128 → EReal
  gw : Fin 128 → Fin 3 → EReal

/-- The key head of a query head. -/
def kv (g : Fin 16) : Fin 4 := ⟨g.val / 4, by omega⟩

/-- The query head `r` of the four that share a key head. -/
def qh (h : Fin 4) (r : Fin 4) : Fin 16 := ⟨4 * h.val + r.val, by omega⟩

/-- `1 / √128`. -/
def root : EReal := (((Real.sqrt 128)⁻¹ : ℝ) : EReal)

/-- The weighted mean of the 32 rows of window `m`, each with its position's row added. -/
def comp (w : Fin 32 → EReal) (pe : Fin 32 → Fin 128 → EReal)
    (x : Fin 2048 → Fin 4 → Fin 128 → EReal) (m : Fin 127) (h : Fin 4) (d : Fin 128) : EReal :=
  Ideal.div (∑ j : Fin 32, w j * (x ⟨16 * m.val + j.val, by omega⟩ h d + pe j d))
    (max (∑ j, w j) (Ideal.ofBits .f32 0x358637BD#32))

/-- The greatest of the scores the mask keeps, `⊥` where it keeps none. -/
def top {n : ℕ} (x : Fin n → EReal) (M : Fin n → Prop) [DecidablePred M] : EReal :=
  Finset.univ.fold max ⊥ fun s => if M s then x s else ⊥

/-- The masked softmax of `x` at `s`. -/
def sm {n : ℕ} (x : Fin n → EReal) (M : Fin n → Prop) [DecidablePred M] (s : Fin n) : EReal :=
  Ideal.div (if M s then Ideal.exp (x s - top x M) else 0)
    (max (∑ s, if M s then Ideal.exp (x s - top x M) else 0) tiny)

namespace Args
variable (A : Args)

/-- The scaled product of a query with a compressed key. -/
def cscore (t : Fin 2048) (g : Fin 16) (m : Fin 127) : EReal :=
  (∑ d, A.q t g d * comp A.wk A.pk A.k m (kv g) d) * root

/-- The compressed branch's weights: window `m` counts once it has ended. -/
def pc (t : Fin 2048) (g : Fin 16) : Fin 127 → EReal :=
  sm (A.cscore t g) fun m => 16 * m.val + 31 ≤ t.val

/-- The compressed branch. -/
def outCmp (t : Fin 2048) (g : Fin 16) (d : Fin 128) : EReal :=
  ∑ m, comp A.wv A.pv A.v m (kv g) d * A.pc t g m

/-- What the four query heads of `h` give block `n` together. -/
def base (t : Fin 2048) (h : Fin 4) (n : Fin 32) : EReal :=
  ∑ m : Fin 127, (∑ r, A.pc t (qh h r) m) * (if m.val / 4 = n.val then 1 else 0)

/-- `1e9`. -/
def big : EReal := Ideal.ofBits .f32 0x4E6E6B28#32

/-- The blocks' scores, with the token's own block and the first block forced. -/
def sel (t : Fin 2048) (h : Fin 4) (n : Fin 32) : EReal :=
  A.base t h n + big * ((if n.val = t.val / 64 then 1 else 0) + (if n.val = 0 then 1 else 0))

/-- Block `n` is among the sixteen best. -/
def chosen (t : Fin 2048) (h : Fin 4) (n : Fin 32) : Prop :=
  ∃ j : Fin 16, sortedFrom (gtB (A.sel t h)) (j.castLE (by decide)) = n

/-- The product of a query with a key. -/
def prod (t : Fin 2048) (g : Fin 16) (s : Fin 2048) : EReal :=
  ∑ d, A.q t g d * A.k s (kv g) d

/-- The scaled product of a query with a key. -/
def score (t : Fin 2048) (g : Fin 16) (s : Fin 2048) : EReal := A.prod t g s * root

/-- The selected branch's mask. -/
def selMask (t : Fin 2048) (h : Fin 4) (s : Fin 2048) : Prop :=
  A.chosen t h ⟨s.val / 64, by omega⟩ ∧ s.val ≤ t.val

/-- The window's mask. -/
def winMask (t s : Fin 2048) : Prop := t.val < s.val + 512 ∧ s.val ≤ t.val

instance (t : Fin 2048) : DecidablePred (winMask t) := fun s => by unfold winMask; infer_instance

open Classical in
/-- The selected branch. -/
def outSel (t : Fin 2048) (g : Fin 16) (d : Fin 128) : EReal :=
  ∑ s, A.v s (kv g) d * sm (A.score t g) (A.selMask t (kv g)) s

/-- The window's branch. -/
def outWin (t : Fin 2048) (g : Fin 16) (d : Fin 128) : EReal :=
  ∑ s, A.v s (kv g) d * sm (A.score t g) (winMask t) s

/-- The gates. -/
def gate (t : Fin 2048) (g : Fin 16) (i : Fin 3) : EReal :=
  Ideal.logistic (∑ d, A.q t g d * A.gw d i)

/-- The result. -/
def out (t : Fin 2048) (g : Fin 16) (d : Fin 128) : EReal :=
  A.gate t g 0 * A.outCmp t g d + A.gate t g 1 * A.outSel t g d + A.gate t g 2 * A.outWin t g d

end Args
end Cert.Proof
-- ==== Proof.Words.lean ====
module
public import Idealize.ShloMosaic.Lib.WordCmp

/-!
# Index words

Differences of index words under a signed comparison, and the floor divisions and remainders the two
programs write with a sign fix-up, at every index they meet.
-/

@[expose] public section
open Idealize.ShloMosaic Idealize.ShloMosaic.WordCmp
namespace Cert.Proof

/-- The sign of a word, as a word. -/
abbrev signW (x : BitVec 32) : BitVec 32 := if x = 0 then 0 else if BitVec.msb x = true then -1 else 1

/-- A difference of index words is an index word where it does not go below zero. -/
theorem subi_ofNat {a b : ℕ} (h : b ≤ a) (ha : a < 2 ^ 31) :
    IntOp.subi (BitVec.ofNat 32 a) (BitVec.ofNat 32 b) = BitVec.ofNat 32 (a - b) := by
  unfold IntOp.subi
  apply BitVec.eq_of_toNat_eq
  simp only [BitVec.toNat_sub, BitVec.toNat_ofNat]
  omega

/-- A difference of index words reads, signed, as the difference. -/
theorem subi_toInt {a b : ℕ} (ha : a < 2 ^ 30) (hb : b < 2 ^ 30) :
    (IntOp.subi (BitVec.ofNat 32 a) (BitVec.ofNat 32 b)).toInt = (a : ℤ) - b := by
  unfold IntOp.subi
  rw [BitVec.toInt_sub, toInt_ofNat_of_lt (by omega), toInt_ofNat_of_lt (by omega)]
  rw [Int.bmod_eq_of_le] <;> omega

/-- `a - b < c`, signed. -/
theorem slt_sub {a b c : ℕ} (ha : a < 2 ^ 30) (hb : b < 2 ^ 30) (hc : c < 2 ^ 30) :
    IntOp.cmpi .slt (IntOp.subi (BitVec.ofNat 32 a) (BitVec.ofNat 32 b)) (BitVec.ofNat 32 c)
      = BitVec.ofBool (decide (a < b + c)) := by
  rw [cmpi_slt_eq, subi_toInt ha hb, toInt_ofNat_of_lt (by omega)]
  congr 1
  exact decide_eq_decide.mpr (by omega)

/-- `c > a - b`, signed. -/
theorem sgt_sub {a b c : ℕ} (ha : a < 2 ^ 30) (hb : b < 2 ^ 30) (hc : c < 2 ^ 30) :
    IntOp.cmpi .sgt (BitVec.ofNat 32 c) (IntOp.subi (BitVec.ofNat 32 a) (BitVec.ofNat 32 b))
      = BitVec.ofBool (decide (a < c + b)) := by
  rw [show IntOp.cmpi .sgt (BitVec.ofNat 32 c) (IntOp.subi (BitVec.ofNat 32 a) (BitVec.ofNat 32 b))
    = IntOp.cmpi .slt (IntOp.subi (BitVec.ofNat 32 a) (BitVec.ofNat 32 b)) (BitVec.ofNat 32 c) from rfl,
    slt_sub ha hb hc]
  congr 1
  exact decide_eq_decide.mpr (by omega)

/-- The host's floor division by 64 of a token's number. -/
theorem floordiv64 : ∀ t : Fin 2048,
    Scalar.select (IntOp.andi (IntOp.cmpi .ne (signW (BitVec.ofNat 32 t.val)) (signW 64#32))
        (IntOp.cmpi .ne (IntOp.remsi ArithUnit.host (BitVec.ofNat 32 t.val) 64#32) 0#32))
      (IntOp.subi (IntOp.divsi ArithUnit.host (BitVec.ofNat 32 t.val) 64#32) 1#32)
      (IntOp.divsi ArithUnit.host (BitVec.ofNat 32 t.val) 64#32) = BitVec.ofNat 32 (t.val / 64) := by
  decide +kernel

end Cert.Proof
-- ==== Proof.RefCmp.lean ====
module
public import proofs.«01_k».proof.Proof.Gen.ReferenceIdeal.Run
public import Idealize.ShloMosaic.Lib.Pointwise
public import Idealize.ShloMosaic.Lib.Tactic.CleanTypes
public import proofs.«01_k».proof.Proof.Spec
public import proofs.«01_k».proof.Proof.Words

/-!
# The reference's compressed branch at an index
-/

@[expose] public section
set_option maxRecDepth 16384
noncomputable section
open Idealize.ShloMosaic Idealize.SL.Sem
namespace Cert.Proof
open Cert.ReferenceIdeal Cert.ReferenceIdeal.Value

/-- The gather of the windows' rows reads the row that the index names. -/
theorem gather_window (x : S1x2048x4x128.Idx → EReal) (idx : IVec S127x32x1 32) (m : Fin 127) (j : Fin 32) (h : Fin 4)
    (d : Fin 128) (n : Fin 2048) (hn : idx (ix3 m j 0) = BitVec.ofNat 32 n.val) :
    Host.gather gather_S1x2048x4x128_S127x32x1_S1x127x32x4x128_034_1_n_n_1_2_114128 x idx (ix5 0 m j h d)
      = x (ix4 0 n h d) := by
  unfold Host.gather
  congr 1
  funext a
  apply Fin.ext
  match a with
  | ⟨0, _⟩ => rfl
  | ⟨1, _⟩ =>
    show (min (idx _).toInt.toNat (2048 - 1) + 0 + 0 : ℕ) = n.val
    have e : ∀ y, y = ix3 m j 0 → min (idx y).toInt.toNat (2048 - 1) + 0 + 0 = n.val := by
      intro y hy
      subst hy
      rw [hn, WordCmp.toInt_ofNat_of_lt (by omega)]
      simp; omega
    apply e
    funext b
    match b with
    | ⟨0, _⟩ => rfl
    | ⟨1, _⟩ => rfl
    | ⟨2, _⟩ => rfl
  | ⟨2, _⟩ =>
   show (0 + 0 + h.val : ℕ) = h.val
   simp
  | ⟨3, _⟩ =>
   show (0 + 0 + d.val : ℕ) = d.val
   simp

/-- The bits of `-∞`. -/
theorem ofBits_bot : Ideal.ofBits .f32 0xFF800000#32 = ⊥ := by simp [Ideal.ofBits, Ideal.ieee]

variable (V0 : Valuation τ sig (Elt Ideal))

/-- The reference's arguments by their coordinates. -/
def rargs : Args where
  q t g d := V0 (Proc.devRef .tc main_arg0) (ix4 0 t g d)
  k t h d := V0 (Proc.devRef .tc main_arg1) (ix4 0 t h d)
  v t h d := V0 (Proc.devRef .tc main_arg2) (ix4 0 t h d)
  wk j := V0 (Proc.devRef .tc main_arg3) (ix1 j)
  wv j := V0 (Proc.devRef .tc main_arg4) (ix1 j)
  pk j d := V0 (Proc.devRef .tc main_arg5) (ix2 j d)
  pv j d := V0 (Proc.devRef .tc main_arg6) (ix2 j d)
  gw d i := V0 (Proc.devRef .tc main_arg7) (ix2 d i)

/-- The scale is `1 / √128`. -/
theorem ref_scale (j) : res_main_v1 V0 j = root := by
  have h128 : Ideal.ofBits .f32 0x43000000#32 = ((128 : ℝ) : EReal) := by
    simp [Ideal.ofBits, Ideal.ieee, -EReal.coe_mul]; norm_num
  pointwise [res_main_v1]
  rw [h128, show Ideal.sqrt ((128 : ℝ) : EReal) = ((Real.sqrt 128 : ℝ) : EReal) from if_neg (by norm_num),
    div_pos_real _ _ (Real.sqrt_pos.mpr (by norm_num)), one_mul, root]

/-- The row that window `m` takes at place `j`. -/
theorem ref_idxk (m : Fin 127) (j : Fin 32) : res_main_v11 V0 (ix2 m j) = BitVec.ofNat 32 (16 * m.val + j.val) := by
  pointwise [res_main_v11]
  rw [WordCmp.muli_ofNat, WordCmp.addi_ofNat, Nat.mul_comm]

/-- The tokens of a window, as words. -/
theorem ref_idxv (m : Fin 127) (j : Fin 32) : res_main_v35 V0 (ix2 m j) = BitVec.ofNat 32 (16 * m.val + j.val) := by
  pointwise [res_main_v35]
  rw [WordCmp.muli_ofNat, WordCmp.addi_ofNat, Nat.mul_comm]

/-- The mask of the compressed branch. -/
theorem ref_cmask (t : Fin 2048) (m : Fin 127) :
    res_main_v70 V0 (ix4 0 0 t m) = BitVec.ofBool (decide (16 * m.val + 31 ≤ t.val)) := by
  pointwise [res_main_v70, res_main_v2]
  rw [WordCmp.muli_ofNat, WordCmp.addi_ofNat, subi_ofNat (by omega) (by omega),
    WordCmp.cmpi_sle_ofNat (by omega) (by omega)]
  congr 1
  exact decide_eq_decide.mpr (by omega)

/-- The masked scores of the compressed branch. -/
theorem ref_cscore (t : Fin 2048) (g : Fin 16) (m : Fin 127) :
    res_main_v71 V0 (ix4 0 g t m)
      = if 16 * m.val + 31 ≤ t.val then (rargs V0).cscore t g m else ⊥ := by
  pointwise [res_main_v71]
  rw [ref_cmask, WordCmp.select_decide, ref_scale]
  have e : ∀ (j : Fin 32) (d : Fin 128), Host.gather gather_S1x2048x4x128_S127x32x1_S1x127x32x4x128_034_1_n_n_1_2_114128
      (V0 (Proc.devRef .tc main_arg1))
      (broadcastInDim S127x32x1 ![0, 1] Gen.bcast_S127x32_S127x32x1_0_1
        (select (cmpi .slt (res_main_v11 V0) (broadcastInDim S127x32 ![] Gen.bcast_S_S127x32 (constantI S_ 32 0#32)))
          (addi (res_main_v11 V0) (broadcastInDim S127x32 ![] Gen.bcast_S_S127x32 (constantI S_ 32 2048#32)))
          (res_main_v11 V0))) (ix5 0 m j (kv g) d)
        = V0 (Proc.devRef .tc main_arg1) (ix4 0 ⟨16 * m.val + j.val, by omega⟩ (kv g) d) := by
    intro j d
    apply gather_window
    pointwise
    rw [ref_idxk, WordCmp.cmpi_slt_ofNat (by omega) (by omega), WordCmp.select_decide, if_neg (by omega)]
  congr 1
  · unfold Args.cscore comp
    congr 1
    refine Finset.sum_congr rfl fun d _ => ?_
    congr 2
    exact Finset.sum_congr rfl fun j _ => congrArg₂ _ rfl (congrArg₂ _ (e j d) rfl)

/-- The exponentials of the compressed branch. -/
theorem ref_cexp (t : Fin 2048) (g : Fin 16) (m : Fin 127) :
    res_main_v77 V0 (ix4 0 g t m)
      = if 16 * m.val + 31 ≤ t.val then Ideal.exp ((rargs V0).cscore t g m
          - top ((rargs V0).cscore t g) fun m => 16 * m.val + 31 ≤ t.val) else 0 := by
  unfold res_main_v77
  clean_types
  pointwise
  rw [ref_cmask, WordCmp.select_decide]
  simp only [ref_cscore]
  split_ifs with h
  · rw [ofBits_bot]
    rfl
  · exact Ideal.ofBits_zero_f32

/-- The weights of the compressed branch. -/
theorem ref_pc (t : Fin 2048) (g : Fin 16) (m : Fin 127) :
    res_main_v83 V0 (ix4 0 g t m) = (rargs V0).pc t g m := by
  pointwise [res_main_v83]
  simp only [ref_cexp]
  rfl
end Cert.Proof
-- ==== Proof.RefSel.lean ====
module
public import proofs.«01_k».proof.Proof.RefCmp

/-!
# The reference's choice of blocks at an index
-/

@[expose] public section
set_option maxRecDepth 16384
noncomputable section
open Idealize.ShloMosaic Idealize.SL.Sem
namespace Cert.Proof
open Cert.ReferenceIdeal Cert.ReferenceIdeal.Value
variable (V0 : Valuation τ sig (Elt Ideal))

/-- The gather of the tokens' blocks reads the block that the index names. -/
theorem gather_block (x : S1x4x2048x32.Idx → BitVec 1) (idx : IVec S2048x1 32) (h : Fin 4) (t s : Fin 2048)
    (n : Fin 32) (hn : idx (ix2 s 0) = BitVec.ofNat 32 n.val) :
    Host.gather gather_S1x4x2048x32_S2048x1_S1x4x2048x2048_012_3_n_n_3_1_1420481 x idx (ix4 0 h t s)
      = x (ix4 0 h t n) := by
  unfold Host.gather
  congr 1
  funext a
  apply Fin.ext
  match a with
  | ⟨0, _⟩ => rfl
  | ⟨1, _⟩ =>
    show (0 + 0 + h.val : ℕ) = h.val
    simp
  | ⟨2, _⟩ =>
    show (0 + 0 + t.val : ℕ) = t.val
    simp
  | ⟨3, _⟩ =>
    show (min (idx _).toInt.toNat (32 - 1) + 0 + 0 : ℕ) = n.val
    have e : ∀ y, y = ix2 s 0 → min (idx y).toInt.toNat (32 - 1) + 0 + 0 = n.val := by
      intro y hy
      subst hy
      rw [hn, WordCmp.toInt_ofNat_of_lt (by omega)]
      simp; omega
    apply e
    funext b
    match b with
    | ⟨0, _⟩ => rfl
    | ⟨1, _⟩ => rfl

/-- A truth value as a number. -/
theorem uitofp_ofBool (p : Prop) [Decidable p] :
    FloatOps.uitofp (F := Ideal) FTy.f32 (BitVec.ofBool (decide p)) = if p then (1 : EReal) else 0 := by
  by_cases h : p
  · rw [if_pos h, decide_eq_true h]
    show (((1#1 : BitVec 1).toNat : ℝ) : EReal) = 1
    simp
  · rw [if_neg h, decide_eq_false h]
    show (((0#1 : BitVec 1).toNat : ℝ) : EReal) = 0
    simp

/-- The bit of a decided proposition. -/
theorem ofBool_decide_iff (p : Prop) [Decidable p] : BitVec.ofBool (decide p) = 1#1 ↔ p := by
  by_cases h : p <;> simp [h]

/-- A sum of zeros and ones is positive where one of them is one. -/
theorem sum_ite_pos {n : ℕ} (p : Fin n → Prop) [DecidablePred p] :
    (0 : EReal) < ∑ j, (if p j then (1 : EReal) else 0) ↔ ∃ j, p j := by
  constructor
  · intro h
    by_contra hn
    rw [Finset.sum_eq_zero fun j _ => if_neg fun hj => hn ⟨j, hj⟩] at h
    exact lt_irrefl _ h
  · rintro ⟨j, hj⟩
    refine lt_of_lt_of_le (b := if p j then (1 : EReal) else 0) (by rw [if_pos hj]; exact zero_lt_one) ?_
    exact Finset.single_le_sum (f := fun j => if p j then (1 : EReal) else 0)
      (fun i _ => by split_ifs <;> simp) (Finset.mem_univ j)

/-- The blocks' scores. -/
theorem ref_sel (t : Fin 2048) (h : Fin 4) (n : Fin 32) :
    res_main_v119 V0 (ix4 0 h t n) = (rargs V0).sel t h n := by
  have e1 : ∀ x : Fin 127, res_main_v90 V0 (ix1 x) = BitVec.ofNat 32 (16 * x.val) := by
    intro x
    pointwise [res_main_v90]
    rw [WordCmp.muli_ofNat, Nat.mul_comm]
  have e3 : ∀ x : Fin 127, res_main_call2_v2 V0 (ix1 x) = IntOp.divsi .host (BitVec.ofNat 32 (16 * x.val)) 64#32 := by
    intro x
    pointwise [res_main_call2_v2]
    rw [e1]
    rfl
  have e4 : res_main_call3_v2 V0 (ix1 t) = IntOp.divsi .host (BitVec.ofNat 32 t.val) 64#32 := by
    pointwise [res_main_call3_v2]
    rfl
  pointwise [res_main_v119]
  rw [e4]
  simp only [e1, e3, ref_pc]
  unfold Args.sel Args.base
  refine congrArg₂ (· + ·) (Finset.sum_congr rfl fun m _ => congrArg₂ (· * ·) ?_ ?_)
    (congrArg₂ (· * ·) rfl (congrArg₂ (· + ·) ?_ ?_))
  · refine Finset.sum_congr rfl fun r _ => ?_
    congr 1
    apply Fin.ext
    show h.val * 4 + r.val = 4 * h.val + r.val
    omega
  · refine (congrArg (fun w => FloatOps.uitofp (F := Ideal) FTy.f32 (IntOp.cmpi .eq w (BitVec.ofNat 32 n.val)))
      (floordiv64 ⟨16 * m.val, by omega⟩)).trans ?_
    dsimp only
    rw [WordCmp.cmpi_eq_ofNat (by omega) (by omega), uitofp_ofBool]
    exact if_congr (by omega) rfl rfl
  · refine (congrArg (fun w => FloatOps.uitofp (F := Ideal) FTy.f32 (IntOp.cmpi .eq (BitVec.ofNat 32 n.val) w))
      (floordiv64 t)).trans ?_
    rw [WordCmp.cmpi_eq_ofNat (by omega) (by omega), uitofp_ofBool]
  · rw [WordCmp.cmpi_eq_ofNat (by omega) (by omega), uitofp_ofBool]

/-- The block of a token. -/
theorem ref_block (s : Fin 2048) : res_main_call6_v5 V0 (ix2 s 0) = BitVec.ofNat 32 (s.val / 64) := by
  have e2 : res_main_v125 V0 (ix1 s) = BitVec.ofNat 32 (s.val / 64) := by
    have e3 : res_main_call5_v2 V0 (ix1 s) = IntOp.divsi .host (BitVec.ofNat 32 s.val) 64#32 := by
      pointwise [res_main_call5_v2]
      rfl
    pointwise [res_main_v125]
    rw [e3]
    exact floordiv64 s
  pointwise [res_main_call6_v5]
  rw [e2, WordCmp.cmpi_slt_ofNat (by omega) (by omega), WordCmp.select_decide, if_neg (by omega)]

/-- A sort of a row with its positions, at an index. -/
theorem sort2_apply (x : S1x4x2048x32.Idx → EReal) (y : IVec S1x4x2048x32 32) (t : Fin 2048) (h : Fin 4) (k : Fin 32) :
    (Host.sort2 S1x4x2048x32 3 (fun l r : EReal × BitVec 32 =>
        FloatOps.cmpfTotal (F := Ideal) (φ := .f32) CmpDirection.gt l.1 r.1) x y).2 (ix4 0 h t k)
      = y (ix4 0 h t (sortedFrom (gtB fun n => x (ix4 0 h t n)) k)) := by
  have hg : ∀ a b : EReal, (FloatOps.cmpfTotal (F := Ideal) (φ := .f32) CmpDirection.gt a b == 1#1) = decide (b < a) := by
    intro a b
    show ((BitVec.ofBool (decide (b < a))) == 1#1) = _
    by_cases h : b < a <;> simp [h]
  have ha : ∀ (i k : Fin 32), (ix4 0 h t i : S1x4x2048x32.Idx).along (3 : Fin 4) k = ix4 0 h t k := by
    intro i k
    funext a
    match a with
    | ⟨0, _⟩ => rfl
    | ⟨1, _⟩ => rfl
    | ⟨2, _⟩ => rfl
    | ⟨3, _⟩ => rfl
  unfold Host.sort2
  rw [dif_pos (by decide)]
  have hk : ∀ (f g : Fin 32 → Fin 32 → Bool), f = g →
      y ((ix4 0 h t k : S1x4x2048x32.Idx).along (3 : Fin 4) (sortedFrom f k)) = y (ix4 0 h t (sortedFrom g k)) := by
    rintro f g rfl
    exact congrArg y (ha k (sortedFrom f k))
  refine hk _ _ ?_
  funext a b
  exact (hg _ _).trans (by unfold gtB; erw [ha, ha])

/-- The top sixteen's positions, at an index, are those of the stable sort of the row. -/
theorem topk_apply (x : S1x4x2048x32.Idx → EReal) (t : Fin 2048) (h : Fin 4) (j : Fin 16) :
    (Host.topK S1x4x2048x16 3 (FloatOps.cmpfTotal (F := Ideal) (φ := .f32) CmpDirection.gt) x
        Gen.sliceFits_S1x4x2048x32_S1x4x2048x16).2 (ix4 0 h t j)
      = BitVec.ofNat 32 (sortedFrom (gtB fun n => x (ix4 0 h t n)) (j.castLE (by decide))).val := by
  have hi : (fun a => ⟨0 + ((ix4 0 h t j : S1x4x2048x16.Idx) a).val, by
      match a with
      | ⟨0, _⟩ => show 0 + 0 < 1; omega
      | ⟨1, _⟩ => show 0 + h.val < 4; omega
      | ⟨2, _⟩ => show 0 + t.val < 2048; omega
      | ⟨3, _⟩ => show 0 + j.val < 32; omega⟩ : S1x4x2048x32.Idx) = ix4 0 h t (j.castLE (by decide)) := by
    funext a
    match a with
    | ⟨0, _⟩ => rfl
    | ⟨1, _⟩ => exact Fin.ext (Nat.zero_add _)
    | ⟨2, _⟩ => exact Fin.ext (Nat.zero_add _)
    | ⟨3, _⟩ => exact Fin.ext (Nat.zero_add _)
  unfold Host.topK extractStridedSlice
  dsimp only
  refine (congrArg (Host.sort2 S1x4x2048x32 3 (fun l r : EReal × BitVec 32 =>
        FloatOps.cmpfTotal (F := Ideal) (φ := .f32) CmpDirection.gt l.1 r.1) x _).2 hi).trans ?_
  rw [sort2_apply]
  generalize sortedFrom _ _ = k
  rfl

/-- The bit that says whether block `n` is chosen. -/
theorem ref_chosen (t : Fin 2048) (h : Fin 4) (n : Fin 32) :
    (cmpf (F := Ideal) CmpFPredicate.ogt
            (Host.reduceAdd
              (uitofp FTy.f32
                (cmpi CmpIPredicate.eq
                  (broadcastInDim S1x4x2048x16x32 ![0, 1, 2, 3, 4] Gen.bcast_S1x4x2048x16x1_S1x4x2048x16x32_0_1_2_3_4
                    (broadcastInDim S1x4x2048x16x1 ![0, 1, 2, 3] Gen.bcast_S1x4x2048x16_S1x4x2048x16x1_0_1_2_3
                      (Host.topK S1x4x2048x16 3 (FloatOps.cmpfTotal CmpDirection.gt) (res_main_v119 V0)
                          Gen.sliceFits_S1x4x2048x32_S1x4x2048x16).2))
                  (broadcastInDim S1x4x2048x16x32 ![0, 1, 2, 3, 4] Gen.bcast_S1x1x1x1x32_S1x4x2048x16x32_0_1_2_3_4
                    (iotaInDim S1x1x1x1x32 32 4))))
              (constant S_ FTy.f32 0#32) Gen.reducesTo_S1x4x2048x16x32_S1x4x2048x32_d3 Gen.h_S_)
            (broadcastInDim S1x4x2048x32 ![] Gen.bcast_S_S1x4x2048x32 (constant S_ FTy.f32 0#32))) (ix4 0 h t n) = 1#1
    ↔ (rargs V0).chosen t h n := by
  pointwise
  rw [ofBool_decide_iff]
  have hx : ∀ j : Fin 16, FloatOps.uitofp (F := Ideal) FTy.f32 (IntOp.cmpi .eq
      ((Host.topK S1x4x2048x16 3 (FloatOps.cmpfTotal CmpDirection.gt) (res_main_v119 V0)
                        Gen.sliceFits_S1x4x2048x32_S1x4x2048x16).2 (ix4 0 h t j)) (BitVec.ofNat 32 n.val))
      = if sortedFrom (gtB ((rargs V0).sel t h)) (j.castLE (by decide)) = n then (1 : EReal) else 0 := by
    intro j
    rw [topk_apply, WordCmp.cmpi_eq_ofNat (by omega) (by omega), uitofp_ofBool]
    simp only [ref_sel]
    exact if_congr Fin.val_inj rfl rfl
  rw [Finset.sum_congr rfl fun j _ => hx j]
  exact sum_ite_pos _

end Cert.Proof
-- ==== Proof.Blocks.lean ====
module
public import proofs.«01_k».proof.Proof.Gen.KernelIdeal.Value
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Routing.OpsOne
public import proofs.«01_k».proof.Proof.RefSel
/-!
# The kernel's input blocks as functions of the arguments
-/

@[expose] public section
set_option maxRecDepth 16384
noncomputable section
open Idealize.ShloMosaic Idealize.SL.Sem
namespace Cert.Proof
open Cert.KernelIdeal Cert.KernelIdeal.Gen

variable (m : (ℓ : Loc nD τ sig) → Buf (Elt Ideal) ℓ) (c : Dev nD)

/-- The gather of a table of sixteen weights reads the weight that the index word names. -/
theorem gather_weight (x : S16.Idx → EReal) (idx : IVec S127x2048x1 32) (n : Fin 127) (s : Fin 2048) :
    Host.gather gather_S16_S127x2048x1_S127x2048_n_0_n_n_0_2_1 x idx (ix2 n s)
      = x (ix1 ⟨min (idx (ix3 n s 0)).toInt.toNat 15, by omega⟩) := by
  unfold Host.gather
  congr 1
  funext a
  apply Fin.ext
  match a with
  | ⟨0, _⟩ =>
    show (min (idx _).toInt.toNat (16 - 1) + 0 + 0 : ℕ) = min (idx (ix3 n s 0)).toInt.toNat 15
    have e : ∀ y, y = ix3 n s 0 → min (idx y).toInt.toNat (16 - 1) + 0 + 0 = min (idx (ix3 n s 0)).toInt.toNat 15 := by
      intro y hy
      subst hy
      rfl
    apply e
    funext b
    match b with
    | ⟨0, _⟩ => rfl
    | ⟨1, _⟩ => rfl
    | ⟨2, _⟩ => rfl

/-- A weight picked by a clipped index word where the word lies below sixteen, and zero elsewhere. -/
theorem band_pick (x : BitVec 32) (g : Fin 16 → EReal) (z : EReal) (h) :
    Scalar.select (IntOp.andi (IntOp.cmpi .sge x 0#32) (IntOp.cmpi .slt x 16#32))
      (g ⟨min (Scalar.select (IntOp.cmpi .slt (IntOp.minsi 15#32 (IntOp.maxsi 0#32 x)) 0#32)
          (IntOp.addi (IntOp.minsi 15#32 (IntOp.maxsi 0#32 x)) 16#32)
          (IntOp.minsi 15#32 (IntOp.maxsi 0#32 x))).toInt.toNat 15, h⟩) z
      = if hx : x.toNat < 16 then g ⟨x.toNat, hx⟩ else z := by
  by_cases hx : x.toNat < 16
  · rw [dif_pos hx]
    obtain ⟨k, rfl⟩ : ∃ k : Fin 16, x = BitVec.ofNat 32 k.val := ⟨⟨x.toNat, hx⟩, by simp⟩
    have key : ∀ k : Fin 16, IntOp.andi (IntOp.cmpi .sge (BitVec.ofNat 32 k.val) 0#32) (IntOp.cmpi .slt (BitVec.ofNat 32 k.val) 16#32) = 1#1
      ∧ min (Scalar.select (IntOp.cmpi .slt (IntOp.minsi 15#32 (IntOp.maxsi 0#32 (BitVec.ofNat 32 k.val))) 0#32)
          (IntOp.addi (IntOp.minsi 15#32 (IntOp.maxsi 0#32 (BitVec.ofNat 32 k.val))) 16#32)
          (IntOp.minsi 15#32 (IntOp.maxsi 0#32 (BitVec.ofNat 32 k.val)))).toInt.toNat 15 = (BitVec.ofNat 32 k.val).toNat := by
      decide +kernel
    rw [(key k).1]
    exact congrArg g (Fin.ext (key k).2)
  · rw [dif_neg hx]
    have h0 : IntOp.andi (IntOp.cmpi .sge x 0#32) (IntOp.cmpi .slt x 16#32) = 0#1 := by
      rw [WordCmp.cmpi_slt_eq, WordCmp.cmpi_sge_eq, WordCmp.andi_ofBool]
      have e : ¬ ((0#32).toInt ≤ x.toInt ∧ x.toInt < (16#32).toInt) := by
        rw [BitVec.toInt_eq_toNat_cond x]
        simp
        split <;> omega
      rw [← Bool.decide_and, decide_eq_false e]
      rfl
    rw [h0]
    rfl

/-- The zero of the literals, -/
theorem ofBits_zero : Ideal.ofBits .f32 0x00000000#32 = 0 := by simp [Ideal.ofBits, Ideal.ieee]

/-- and of the integers. -/
theorem sitofp_zero : FloatOps.sitofp (F := Ideal) FTy.f32 0#32 = (0 : EReal) := by
  show (((0#32 : BitVec 32).toInt : ℝ) : EReal) = 0
  simp

/-- The kernel's arguments by their coordinates. -/
def kargs : Args where
  q t g d := m (c, Proc.devRef .tc main_arg0) (ix4 0 t g d)
  k t h d := m (c, Proc.devRef .tc main_arg1) (ix4 0 t h d)
  v t h d := m (c, Proc.devRef .tc main_arg2) (ix4 0 t h d)
  wk j := m (c, Proc.devRef .tc main_arg3) (ix1 j)
  wv j := m (c, Proc.devRef .tc main_arg4) (ix1 j)
  pk j d := m (c, Proc.devRef .tc main_arg5) (ix2 j d)
  pv j d := m (c, Proc.devRef .tc main_arg6) (ix2 j d)
  gw d i := m (c, Proc.devRef .tc main_arg7) (ix2 d i)

/-- The band of sixteen weights, from the `o`-th on, that window `n` puts on the tokens. -/
def band (w : Fin 32 → EReal) (o : ℕ) (n : Fin 128) (s : Fin 2048) : EReal :=
  if n.val < 127 ∧ 16 * n.val + o ≤ s.val ∧ s.val < 16 * n.val + o + 16 then
    w ⟨(s.val - 16 * n.val) % 32, Nat.mod_lt _ (by decide)⟩ else 0

/-- A weight read by the distance of a token from the start of a window is the band's entry. -/
theorem band_word (w : Fin 32 → EReal) (o : ℕ) (ho : o ≤ 16) (n : Fin 128) (s : Fin 2048) (g : Fin 16 → EReal) (z : EReal)
    (hz : z = 0) (hg : ∀ k, g k = w ⟨o + k.val, by omega⟩) (hn : n.val < 127) :
    (if hx : (IntOp.subi (IntOp.subi (BitVec.ofNat 32 s.val) (IntOp.muli (16#32) (BitVec.ofNat 32 n.val))) (BitVec.ofNat 32 o)).toNat < 16
      then g ⟨(IntOp.subi (IntOp.subi (BitVec.ofNat 32 s.val) (IntOp.muli (16#32) (BitVec.ofNat 32 n.val))) (BitVec.ofNat 32 o)).toNat, hx⟩
      else z) = band w o n s := by
  have e : (IntOp.subi (IntOp.subi (BitVec.ofNat 32 s.val) (IntOp.muli (16#32) (BitVec.ofNat 32 n.val))) (BitVec.ofNat 32 o)).toNat
      = (2 ^ 32 + s.val - 16 * n.val - o) % 2 ^ 32 := by
    rw [show (16#32 : BitVec 32) = BitVec.ofNat 32 16 from rfl, WordCmp.muli_ofNat]
    unfold IntOp.subi
    simp only [BitVec.toNat_sub, BitVec.toNat_ofNat]
    omega
  unfold band
  by_cases h : 16 * n.val + o ≤ s.val ∧ s.val < 16 * n.val + o + 16
  · rw [dif_pos (by rw [e]; omega), if_pos ⟨hn, h⟩, hg]
    congr 1
    apply Fin.ext
    dsimp only
    rw [e]
    omega
  · rw [dif_neg (by rw [e]; omega), if_neg fun h' => h h'.2, hz]

/-- The first half of the keys' weights, as a band, -/
theorem v68_apply (n : Fin 128) (s : Fin 2048) : V m c main_call0_v68 (ix2 n s) = band (kargs m c).wk 0 n s := by
  unfold V
  after_reads_at
  by_cases hn : n.val < 127
  · rw [dif_pos hn, gather_weight]
    refine (band_pick (IntOp.subi (IntOp.subi (BitVec.ofNat 32 s.val) (IntOp.muli (16#32) (BitVec.ofNat 32 n.val))) 0#32)
      (fun k => extractStridedSlice S16 ![0] (m (c, Proc.tc.devRef main_arg3)) slices_S32_S16_0 (ix1 k)) _ _).trans ?_
    exact band_word (kargs m c).wk 0 (by omega) n s
      (fun k => extractStridedSlice S16 ![0] (m (c, Proc.tc.devRef main_arg3)) slices_S32_S16_0 (ix1 k)) _ ofBits_zero
      (fun k => by pointwise []; first | rfl | (unfold kargs; congr 2; apply Fin.ext; simp)) hn
  · rw [dif_neg hn]
    unfold band
    rw [if_neg fun h => hn h.1]
    exact sitofp_zero

/-- the second half, -/
theorem v96_apply (n : Fin 128) (s : Fin 2048) : V m c main_call0_v96 (ix2 n s) = band (kargs m c).wk 16 n s := by
  unfold V
  after_reads_at
  by_cases hn : n.val < 127
  · rw [dif_pos hn, gather_weight]
    refine (band_pick (IntOp.subi (IntOp.subi (BitVec.ofNat 32 s.val) (IntOp.muli (16#32) (BitVec.ofNat 32 n.val))) 16#32)
      (fun k => extractStridedSlice S16 ![16] (m (c, Proc.tc.devRef main_arg3)) slices_S32_S16_16 (ix1 k)) _ _).trans ?_
    exact band_word (kargs m c).wk 16 (by omega) n s
      (fun k => extractStridedSlice S16 ![16] (m (c, Proc.tc.devRef main_arg3)) slices_S32_S16_16 (ix1 k)) _ ofBits_zero
      (fun k => by pointwise []; first | rfl | (unfold kargs; congr 2; apply Fin.ext; simp)) hn
  · rw [dif_neg hn]
    unfold band
    rw [if_neg fun h => hn h.1]
    exact sitofp_zero

/-- the first half of the values' weights, -/
theorem v124_apply (n : Fin 128) (s : Fin 2048) : V m c main_call0_v124 (ix2 n s) = band (kargs m c).wv 0 n s := by
  unfold V
  after_reads_at
  by_cases hn : n.val < 127
  · rw [dif_pos hn, gather_weight]
    refine (band_pick (IntOp.subi (IntOp.subi (BitVec.ofNat 32 s.val) (IntOp.muli (16#32) (BitVec.ofNat 32 n.val))) 0#32)
      (fun k => extractStridedSlice S16 ![0] (m (c, Proc.tc.devRef main_arg4)) slices_S32_S16_0 (ix1 k)) _ _).trans ?_
    exact band_word (kargs m c).wv 0 (by omega) n s
      (fun k => extractStridedSlice S16 ![0] (m (c, Proc.tc.devRef main_arg4)) slices_S32_S16_0 (ix1 k)) _ ofBits_zero
      (fun k => by pointwise []; first | rfl | (unfold kargs; congr 2; apply Fin.ext; simp)) hn
  · rw [dif_neg hn]
    unfold band
    rw [if_neg fun h => hn h.1]
    exact sitofp_zero

/-- and the second. -/
theorem v152_apply (n : Fin 128) (s : Fin 2048) : V m c main_call0_v152 (ix2 n s) = band (kargs m c).wv 16 n s := by
  unfold V
  after_reads_at
  by_cases hn : n.val < 127
  · rw [dif_pos hn, gather_weight]
    refine (band_pick (IntOp.subi (IntOp.subi (BitVec.ofNat 32 s.val) (IntOp.muli (16#32) (BitVec.ofNat 32 n.val))) 16#32)
      (fun k => extractStridedSlice S16 ![16] (m (c, Proc.tc.devRef main_arg4)) slices_S32_S16_16 (ix1 k)) _ _).trans ?_
    exact band_word (kargs m c).wv 16 (by omega) n s
      (fun k => extractStridedSlice S16 ![16] (m (c, Proc.tc.devRef main_arg4)) slices_S32_S16_16 (ix1 k)) _ ofBits_zero
      (fun k => by pointwise []; first | rfl | (unfold kargs; congr 2; apply Fin.ext; simp)) hn
  · rw [dif_neg hn]
    unfold band
    rw [if_neg fun h => hn h.1]
    exact sitofp_zero

/-- The queries, by key head. -/
theorem v2_apply (h a : Fin 4) (t : Fin 2048) (d : Fin 128) :
    V m c main_call0_v2 (ix4 h a t d) = (kargs m c).q t ⟨4 * h.val + a.val, by omega⟩ d := by
  unfold V
  after_reads_at
  unfold kargs
  congr 2
  first | rfl | (apply Fin.ext; simp; omega)

/-- The keys, by head. -/
theorem v7_apply (h : Fin 4) (s : Fin 2048) (d : Fin 128) : V m c main_call0_v7 (ix3 h s d) = (kargs m c).k s h d := by
  unfold V
  after_reads_at
  rfl

/-- The values, by head. -/
theorem v8_apply (h : Fin 4) (s : Fin 2048) (d : Fin 128) : V m c main_call0_v8 (ix3 h s d) = (kargs m c).v s h d := by
  unfold V
  after_reads_at
  rfl

/-- The keys with the first half of their positions' rows, -/
theorem v28_apply (h : Fin 4) (s : Fin 2048) (d : Fin 128) :
    V m c main_call0_v28 (ix3 h s d) = (kargs m c).k s h d + (kargs m c).pk ⟨0 + s.val % 16, by omega⟩ d := by
  unfold V
  after_reads_at
  unfold kargs
  congr 3

/-- with the second half; -/
theorem v32_apply (h : Fin 4) (s : Fin 2048) (d : Fin 128) :
    V m c main_call0_v32 (ix3 h s d) = (kargs m c).k s h d + (kargs m c).pk ⟨16 + s.val % 16, by omega⟩ d := by
  unfold V
  after_reads_at
  unfold kargs
  congr 3

/-- the values with the first half, -/
theorem v36_apply (h : Fin 4) (s : Fin 2048) (d : Fin 128) :
    V m c main_call0_v36 (ix3 h s d) = (kargs m c).v s h d + (kargs m c).pv ⟨0 + s.val % 16, by omega⟩ d := by
  unfold V
  after_reads_at
  unfold kargs
  congr 3

/-- and with the second. -/
theorem v40_apply (h : Fin 4) (s : Fin 2048) (d : Fin 128) :
    V m c main_call0_v40 (ix3 h s d) = (kargs m c).v s h d + (kargs m c).pv ⟨16 + s.val % 16, by omega⟩ d := by
  unfold V
  after_reads_at
  unfold kargs
  congr 3

/-- The sum of the keys' weights, from below at 1e-6, -/
theorem v165_apply_k : V m c main_call0_v165 (ix2 0 0) = max (∑ j, (kargs m c).wk j) (Ideal.ofBits .f32 0x358637BD#32) := by
  unfold V
  after_reads_at
  refine (Routing.scatter_cell_signed scatter_S8x128_S2_S__n_01_01_0 rfl rfl rfl _ _ _ 0 0).trans ?_
  pointwise []
  after_reads_at
  rw [if_neg (by decide)]
  refine (Routing.scatter_cell_signed scatter_S8x128_S2_S__n_01_01_0 rfl rfl rfl _ _ _ 0 0).trans ?_
  pointwise []
  after_reads_at
  rw [if_pos (by decide)]
  rfl

/-- and that of the values' weights. -/
theorem v165_apply_v : V m c main_call0_v165 (ix2 1 0) = max (∑ j, (kargs m c).wv j) (Ideal.ofBits .f32 0x358637BD#32) := by
  unfold V
  after_reads_at
  refine (Routing.scatter_cell_signed scatter_S8x128_S2_S__n_01_01_0 rfl rfl rfl _ _ _ 1 0).trans ?_
  pointwise []
  after_reads_at
  rw [if_pos (by decide)]
  rfl

/-- The gates' weights. -/
theorem v167_apply (d : Fin 128) (i : Fin 3) : V m c main_call0_v167 (ix2 d ⟨i.val, by omega⟩) = (kargs m c).gw d i := by
  unfold V
  after_reads_at
  rfl

/-- A flag that is set where two index words agree. -/
theorem flag_eq (a b : ℕ) (ha : a < 2 ^ 32) (hb : b < 2 ^ 32) :
    FloatOps.uitofp (F := Ideal) FTy.f32 (IntOp.cmpi .eq (BitVec.ofNat 32 a) (BitVec.ofNat 32 b)) = if a = b then (1 : EReal) else 0 := by
  rw [WordCmp.cmpi_eq_ofNat ha hb]
  exact uitofp_ofBool _

/-- The block of each token. -/
theorem v176_apply (s : Fin 2048) (n : Fin 32) : V m c main_call0_v176 (ix2 s n) = if s.val / 64 = n.val then (1 : EReal) else 0 := by
  unfold V
  after_reads_at
  exact (congrArg (fun x => FloatOps.uitofp (F := Ideal) FTy.bf16 (IntOp.cmpi .eq x (BitVec.ofNat 32 n.val))) (floordiv64 s)).trans
    (flag_eq (s.val / 64) n.val (by omega) (by omega))

/-- The host's floor division by 4 of a window's number. -/
theorem floordiv4 : ∀ t : Fin 128,
    Scalar.select (IntOp.andi (IntOp.cmpi .ne (signW (BitVec.ofNat 32 t.val)) (signW 4#32))
        (IntOp.cmpi .ne (IntOp.remsi ArithUnit.host (BitVec.ofNat 32 t.val) 4#32) 0#32))
      (IntOp.subi (IntOp.divsi ArithUnit.host (BitVec.ofNat 32 t.val) 4#32) 1#32)
      (IntOp.divsi ArithUnit.host (BitVec.ofNat 32 t.val) 4#32) = BitVec.ofNat 32 (t.val / 4) := by
  decide +kernel

/-- The block of each window. -/
theorem v185_apply (n : Fin 32) (x : Fin 128) : V m c main_call0_v185 (ix2 n x) = if x.val / 4 = n.val then (1 : EReal) else 0 := by
  unfold V
  after_reads_at
  exact (congrArg (fun y => FloatOps.uitofp (F := Ideal) FTy.f32 (IntOp.cmpi .eq y (BitVec.ofNat 32 n.val))) (floordiv4 x)).trans
    (flag_eq (x.val / 4) n.val (by omega) (by omega))

/-- The blocks that the input windows hold at a point of the grid. -/
theorem idx : ∀ t : Fin cfg0.N, win0_0.index t = ![t.val / 4, 0, t.val % 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, 0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] := by
  decide +kernel

/-- The grid has sixteen points. -/
theorem pt_lt (t : Fin cfg0.N) : t.val < 16 := lt_of_lt_of_eq t.isLt N_0

variable (t : Fin cfg0.N)

/-- The kv head of a point of the grid, -/
def hOf : Fin 4 := ⟨t.val / 4, by have := pt_lt t; omega⟩

/-- and its group of queries. -/
def jOf : Fin 4 := ⟨t.val % 4, by omega⟩

/-- The block of queries of a point; -/
theorem in0 (a : Fin 4) (r : Fin 512) (d : Fin 128) : iblk m c 0 t (ix4 0 a r d)
    = (kargs m c).q ⟨512 * (jOf t).val + r.val, by omega⟩ ⟨4 * (hOf t).val + a.val, by omega⟩ d := by
  rw [← v2_apply m c (hOf t) a]
  blk_ext [iblk, (idx t).1]
  all_goals (simp only [jOf, hOf]; try omega)

/-- of keys; -/
theorem in1 (s : Fin 2048) (d : Fin 128) : iblk m c 1 t (ix3 0 s d) = (kargs m c).k s (hOf t) d := by
  rw [← v7_apply]
  blk_ext [iblk, (idx t).2.1]
  all_goals (simp only [jOf, hOf]; try omega)

/-- of values; -/
theorem in2 (s : Fin 2048) (d : Fin 128) : iblk m c 2 t (ix3 0 s d) = (kargs m c).v s (hOf t) d := by
  rw [← v8_apply]
  blk_ext [iblk, (idx t).2.2.1]
  all_goals (simp only [jOf, hOf]; try omega)

/-- of keys with the first half of the positions, -/
theorem in3 (s : Fin 2048) (d : Fin 128) :
    iblk m c 3 t (ix3 0 s d) = (kargs m c).k s (hOf t) d + (kargs m c).pk ⟨0 + s.val % 16, by omega⟩ d := by
  rw [← v28_apply]
  blk_ext [iblk, (idx t).2.2.2.1]
  all_goals (simp only [jOf, hOf]; try omega)

/-- with the second; -/
theorem in4 (s : Fin 2048) (d : Fin 128) :
    iblk m c 4 t (ix3 0 s d) = (kargs m c).k s (hOf t) d + (kargs m c).pk ⟨16 + s.val % 16, by omega⟩ d := by
  rw [← v32_apply]
  blk_ext [iblk, (idx t).2.2.2.2.1]
  all_goals (simp only [jOf, hOf]; try omega)

/-- of values with the first half, -/
theorem in5 (s : Fin 2048) (d : Fin 128) :
    iblk m c 5 t (ix3 0 s d) = (kargs m c).v s (hOf t) d + (kargs m c).pv ⟨0 + s.val % 16, by omega⟩ d := by
  rw [← v36_apply]
  blk_ext [iblk, (idx t).2.2.2.2.2.1]
  all_goals (simp only [jOf, hOf]; try omega)

/-- with the second; -/
theorem in6 (s : Fin 2048) (d : Fin 128) :
    iblk m c 6 t (ix3 0 s d) = (kargs m c).v s (hOf t) d + (kargs m c).pv ⟨16 + s.val % 16, by omega⟩ d := by
  rw [← v40_apply]
  blk_ext [iblk, (idx t).2.2.2.2.2.2.1]
  all_goals (simp only [jOf, hOf]; try omega)

/-- the band of the keys' first half of weights, -/
theorem in7 (n : Fin 128) (s : Fin 2048) : iblk m c 7 t (ix2 n s) = band (kargs m c).wk 0 n s := by
  rw [← v68_apply]
  blk_ext [iblk, (idx t).2.2.2.2.2.2.2.1]

/-- of the second, -/
theorem in8 (n : Fin 128) (s : Fin 2048) : iblk m c 8 t (ix2 n s) = band (kargs m c).wk 16 n s := by
  rw [← v96_apply]
  blk_ext [iblk, (idx t).2.2.2.2.2.2.2.2.1]

/-- of the values' first half, -/
theorem in9 (n : Fin 128) (s : Fin 2048) : iblk m c 9 t (ix2 n s) = band (kargs m c).wv 0 n s := by
  rw [← v124_apply]
  blk_ext [iblk, (idx t).2.2.2.2.2.2.2.2.2.1]

/-- of the second; -/
theorem in10 (n : Fin 128) (s : Fin 2048) : iblk m c 10 t (ix2 n s) = band (kargs m c).wv 16 n s := by
  rw [← v152_apply]
  blk_ext [iblk, (idx t).2.2.2.2.2.2.2.2.2.2.1]

/-- the sum of the keys' weights, -/
theorem in11_k : iblk m c 11 t (ix2 0 0) = max (∑ j, (kargs m c).wk j) (Ideal.ofBits .f32 0x358637BD#32) := by
  rw [← v165_apply_k]
  blk_ext [iblk, (idx t).2.2.2.2.2.2.2.2.2.2.2.1]

/-- of the values' weights; -/
theorem in11_v : iblk m c 11 t (ix2 1 0) = max (∑ j, (kargs m c).wv j) (Ideal.ofBits .f32 0x358637BD#32) := by
  rw [← v165_apply_v]
  blk_ext [iblk, (idx t).2.2.2.2.2.2.2.2.2.2.2.1]

/-- the gates' weights; -/
theorem in12 (d : Fin 128) (i : Fin 3) : iblk m c 12 t (ix2 d ⟨i.val, by omega⟩) = (kargs m c).gw d i := by
  rw [← v167_apply]
  blk_ext [iblk, (idx t).2.2.2.2.2.2.2.2.2.2.2.2.1]

/-- the block of each token; -/
theorem in13 (s : Fin 2048) (n : Fin 32) : iblk m c 13 t (ix2 s n) = if s.val / 64 = n.val then (1 : EReal) else 0 := by
  rw [← v176_apply m c]
  blk_ext [iblk, (idx t).2.2.2.2.2.2.2.2.2.2.2.2.2.1]

/-- the block of each window. -/
theorem in14 (n : Fin 32) (x : Fin 128) : iblk m c 14 t (ix2 n x) = if x.val / 4 = n.val then (1 : EReal) else 0 := by
  rw [← v185_apply m c]
  blk_ext [iblk, (idx t).2.2.2.2.2.2.2.2.2.2.2.2.2.2]

end Cert.Proof
-- ==== Proof.RefOut.lean ====
module
public import proofs.«01_k».proof.Proof.RefSel

/-!
# The reference's result at an index
-/

@[expose] public section
set_option maxRecDepth 16384
noncomputable section
open Idealize.ShloMosaic Idealize.SL.Sem
namespace Cert.Proof
open Cert.ReferenceIdeal Cert.ReferenceIdeal.Value
variable (V0 : Valuation τ sig (Elt Ideal))

/-- The scaled products. -/
theorem ref_score (t : Fin 2048) (g : Fin 16) (s : Fin 2048) :
    res_main_v144 V0 (ix4 0 g t s) = (rargs V0).score t g s := by
  pointwise [res_main_v144]
  rw [ref_scale]
  rfl

/-- The exponentials of a masked row, the row's greatest score subtracted. -/
theorem masked_exp (M : IVec S1x16x2048x2048 1) (X : FVec Ideal S1x16x2048x2048 .f32) (t : Fin 2048) (g : Fin 16)
    (s : Fin 2048) :
    select M (Host.exp (subf X (broadcastInDim S1x16x2048x2048 ![0, 1, 2, 3] Gen.bcast_S1x16x2048x1_S1x16x2048x2048_0_1_2_3
      (broadcastInDim S1x16x2048x1 ![0, 1, 2] Gen.bcast_S1x16x2048_S1x16x2048x1_0_1_2
        (Host.reduce FloatOps.maximumf X (constant S_ .f32 0xFF800000#32) Gen.reducesTo_S1x16x2048x2048_S1x16x2048_d3 Gen.h_S_)))))
      (broadcastInDim S1x16x2048x2048 ![] Gen.bcast_S_S1x16x2048x2048 (id (constant S_ .f32 0x00000000#32))) (ix4 0 g t s)
    = if M (ix4 0 g t s) = 1#1
      then Ideal.exp (X (ix4 0 g t s) - Finset.univ.fold max ⊥ fun s => X (ix4 0 g t s)) else 0 := by
  pointwise
  unfold Scalar.select
  rw [ofBits_bot]
  exact if_congr Iff.rfl rfl Ideal.ofBits_zero_f32

/-- The window's mask. -/
theorem ref_wmask (t s : Fin 2048) :
    res_main_v169 V0 (ix4 0 0 t s) = BitVec.ofBool (decide (Args.winMask t s)) := by
  pointwise [res_main_v169, res_main_v132, res_main_v2]
  rw [slt_sub (by omega) (by omega) (by omega), WordCmp.cmpi_sge_ofNat (by omega) (by omega),
    WordCmp.andi_ofBool, ← Bool.decide_and]
  rfl

/-- A masked row: the exponentials the reference takes are those of the softmax. -/
theorem masked_row (M : IVec S1x16x2048x2048 1) (X Y : FVec Ideal S1x16x2048x2048 .f32) (t : Fin 2048) (g : Fin 16)
    (P : Fin 2048 → Prop) [DecidablePred P] (hM : ∀ s, M (ix4 0 g t s) = 1#1 ↔ P s)
    (hX : X = select M Y (broadcastInDim S1x16x2048x2048 ![] Gen.bcast_S_S1x16x2048x2048 (id (constant S_ .f32 0xFF800000#32))))
    (s : Fin 2048) :
    (if M (ix4 0 g t s) = 1#1
      then Ideal.exp (X (ix4 0 g t s) - Finset.univ.fold max ⊥ fun s => X (ix4 0 g t s)) else 0)
    = if P s then Ideal.exp (Y (ix4 0 g t s) - top (fun s => Y (ix4 0 g t s)) P) else 0 := by
  have e : ∀ s, X (ix4 0 g t s) = if P s then Y (ix4 0 g t s) else ⊥ := by
    intro s
    rw [hX]
    show (if M (ix4 0 g t s) = 1 then _ else Ideal.ofBits .f32 0xFF800000#32) = _
    rw [ofBits_bot]
    exact if_congr (hM s) rfl rfl
  simp only [e]
  by_cases h : P s
  · rw [if_pos h, if_pos h, if_pos ((hM s).mpr h)]
    rfl
  · exact (if_neg fun h' => h ((hM s).mp h')).trans (if_neg h).symm

/-- The exponentials of the window's branch. -/
theorem ref_wexp (t : Fin 2048) (g : Fin 16) (s : Fin 2048) :
    res_main_v176 V0 (ix4 0 g t s)
      = if Args.winMask t s then Ideal.exp ((rargs V0).score t g s
          - top ((rargs V0).score t g) (Args.winMask t)) else 0 := by
  unfold res_main_v176
  refine (masked_exp _ (res_main_v170 V0) t g s).trans ?_
  refine (masked_row _ _ (res_main_v144 V0) t g (Args.winMask t) ?_ rfl s).trans ?_
  · intro s
    pointwise
    rw [ref_wmask, ofBool_decide_iff]
  · simp only [ref_score]

/-- A bit and a decided proposition. -/
theorem andi_iff (b : BitVec 1) (P p : Prop) [Decidable p] (hb : b = 1#1 ↔ P) :
    IntOp.andi b (BitVec.ofBool (decide p)) = 1#1 ↔ P ∧ p := by
  rw [← hb]
  rcases BitVec.eq_zero_or_eq_one b with rfl | rfl <;> by_cases h : p <;> simp [h, IntOp.andi]

/-- The block's bit, per token and query head, and not after the query's token. -/
theorem ref_smask (t : Fin 2048) (g : Fin 16) (s : Fin 2048) :
    res_main_v137 V0 (ix4 0 g t s) = 1#1 ↔ (rargs V0).selMask t (kv g) s := by
  unfold res_main_v137
  clean_types
  pointwise [res_main_v132, res_main_v2]
  have hr : ∀ x : Fin 1, res_main_call6_v5 V0 (ix2 s x) = BitVec.ofNat 32 (s.val / 64) := fun x => by
    rw [Subsingleton.elim x 0]
    exact ref_block V0 s
  simp only [hr]
  rw [WordCmp.cmpi_sge_ofNat (by omega) (by omega), WordCmp.cmpi_sge_ofNat (by omega) (by omega),
    WordCmp.cmpi_sle_ofNat (by omega) (by omega), decide_eq_true (show 0 ≤ s.val / 64 by omega),
    decide_eq_true (show s.val / 64 ≤ 31 by omega)]
  rw [show Finset.fold IntOp.andi (1#1) (fun _ : Fin 1 => IntOp.andi (BitVec.ofBool true) (BitVec.ofBool true)) Finset.univ = 1#1
    from by decide, WordCmp.select_one]
  refine Iff.trans (Eq.to_iff (congrArg (fun b => IntOp.andi b (BitVec.ofBool (decide (s.val ≤ t.val))) = 1#1)
    (gather_block _ _ (kv g) t s ⟨s.val / 64, by omega⟩ (ref_block V0 s)))) ?_
  unfold Args.selMask
  exact andi_iff _ _ _ (ref_chosen V0 t (kv g) ⟨s.val / 64, by omega⟩)

open Classical in
/-- The exponentials of the selected branch. -/
theorem ref_sexp (t : Fin 2048) (g : Fin 16) (s : Fin 2048) :
    res_main_v151 V0 (ix4 0 g t s)
      = if (rargs V0).selMask t (kv g) s then Ideal.exp ((rargs V0).score t g s
          - top ((rargs V0).score t g) ((rargs V0).selMask t (kv g))) else 0 := by
  unfold res_main_v151
  refine (masked_exp (res_main_v137 V0) (res_main_v145 V0) t g s).trans ?_
  refine (masked_row _ _ (res_main_v144 V0) t g _ (ref_smask V0 t g) rfl s).trans ?_
  simp only [ref_score]

/-- The gates. -/
theorem ref_gate (t : Fin 2048) (g : Fin 16) (i : Fin 3) :
    res_main_v191 V0 (ix4 0 t g i) = (rargs V0).gate t g i := by
  pointwise [res_main_v191]
  rfl

/-- The values, per query head. -/
theorem ref_value (s : Fin 2048) (g : Fin 16) (d : Fin 128) :
    res_main_v141 V0 (ix4 0 s g d) = (rargs V0).v s (kv g) d := by
  pointwise [res_main_v141]
  rfl

/-- The token and the query head of column `r` of a group's result. -/
def tok (qj : Fin 4) (r : Fin 2048) : Fin 2048 := ⟨512 * qj.val + r.val % 512, by omega⟩
/-- The query head. -/
def hd (h : Fin 4) (r : Fin 2048) : Fin 16 := ⟨4 * h.val + r.val / 512, by omega⟩

/-- The reference's result at an index. -/
theorem ref_out (h qj : Fin 4) (d : Fin 128) (r : Fin 2048) :
    val5 V0 (Proc.devRef .tc main_v205) (ix4 h qj d r) = (rargs V0).out (tok qj r) (hd h r) d := by
  rw [val5_main_v205]
  pointwise
  have ht : (⟨qj.val * 512 + r.val % 512, by omega⟩ : Fin 2048) = tok qj r := Fin.ext (by unfold tok; dsimp only; omega)
  have hh : (⟨h.val * 4 + r.val / 512, by omega⟩ : Fin 16) = hd h r := Fin.ext (by unfold hd; dsimp only; omega)
  have hk : kv (hd h r) = h := Fin.ext (by unfold kv hd; dsimp only; omega)
  have e : ∀ (m : Fin 127) (j : Fin 32), Host.gather gather_S1x2048x4x128_S127x32x1_S1x127x32x4x128_034_1_n_n_1_2_114128
      (V0 (Proc.devRef .tc main_arg2))
      (broadcastInDim S127x32x1 ![0, 1] Gen.bcast_S127x32_S127x32x1_0_1
        (select (cmpi .slt (res_main_v35 V0) (broadcastInDim S127x32 ![] Gen.bcast_S_S127x32 (constantI S_ 32 0#32)))
          (addi (res_main_v35 V0) (broadcastInDim S127x32 ![] Gen.bcast_S_S127x32 (constantI S_ 32 2048#32)))
          (res_main_v35 V0))) (ix5 0 m j h d)
        = V0 (Proc.devRef .tc main_arg2) (ix4 0 ⟨16 * m.val + j.val, by omega⟩ h d) := by
    intro m j
    apply gather_window
    pointwise
    rw [ref_idxv, WordCmp.cmpi_slt_ofNat (by omega) (by omega), WordCmp.select_decide, if_neg (by omega)]
  simp only [ht, hh, ref_gate, ref_value, ref_pc, ref_sexp, ref_wexp]
  unfold Args.out
  refine congrArg₂ (· + ·) (congrArg₂ (· + ·) (congrArg₂ (· * ·) rfl ?_) (congrArg₂ (· * ·) rfl ?_)) (congrArg₂ (· * ·) rfl ?_)
  · unfold Args.outCmp comp
    rw [hk]
    refine Finset.sum_congr rfl fun m _ => congrArg₂ (· * ·) ?_ rfl
    congr 1
    exact Finset.sum_congr rfl fun j _ => congrArg₂ _ rfl (congrArg₂ _ (e m j) rfl)
  · rfl
  · rfl
end Cert.Proof
-- ==== Proof.Compress.lean ====
module
public import proofs.«01_k».proof.Proof.Open
public import proofs.«01_k».proof.Proof.Blocks
public import proofs.«01_k».proof.Proof.RefOut
public import Idealize.ShloMosaic.Lib.Pointwise

/-!
# The compressed branch of a point: its keys and values, its weights, its output, and the blocks' scores
-/

@[expose] public section
set_option maxRecDepth 65536
noncomputable section
open Idealize.ShloMosaic Idealize.SL.Sem
namespace Cert.Proof
open Cert.KernelIdeal Cert.KernelIdeal.Gen

/-- A sum over a stretch of a range is the sum over the stretch's own numbers. -/
theorem sum_stretch {N : ℕ} (a b : ℕ) (h : a + b ≤ N) (F : Fin N → EReal) :
    (∑ s : Fin N, if a ≤ s.val ∧ s.val < a + b then F s else 0) = ∑ j : Fin b, F ⟨a + j.val, by omega⟩ := by
  rw [← Finset.sum_filter]
  symm
  refine Finset.sum_bij (fun j _ => ⟨a + j.val, by omega⟩) ?_ ?_ ?_ ?_
  · intro j _
    simp only [Finset.mem_filter, Finset.mem_univ, true_and]
    omega
  · intro i _ j _ e
    simp only [Fin.mk.injEq] at e
    exact Fin.ext (by omega)
  · intro s hs
    simp only [Finset.mem_filter, Finset.mem_univ, true_and] at hs
    exact ⟨⟨s.val - a, by omega⟩, Finset.mem_univ _, Fin.ext (by simp only; omega)⟩
  · intro j _
    rfl

/-- Row `n` of the banded weights against the rows of a block, each with its position's row, half a window. -/
theorem band_sum (w : Fin 32 → EReal) (o : ℕ) (ho : o = 0 ∨ o = 16) (n : Fin 127) (F : Fin 2048 → EReal) (pe : Fin 32 → EReal)
    (X : Fin 2048 → EReal) (hX : ∀ s, X s = F s + pe ⟨o + s.val % 16, by omega⟩) :
    (∑ s, band w o n.castSucc s * X s)
      = ∑ j : Fin 16, w ⟨o + j.val, by omega⟩ * (F ⟨16 * n.val + (o + j.val), by omega⟩ + pe ⟨o + j.val, by omega⟩) := by
  refine Eq.trans ?_ ((sum_stretch (16 * n.val + o) 16 (by omega)
    (fun s => w ⟨(s.val - 16 * n.val) % 32, Nat.mod_lt _ (by omega)⟩ * (F s + pe ⟨o + s.val % 16, by omega⟩))).trans ?_)
  · refine Finset.sum_congr rfl fun s _ => ?_
    have hn : (n.castSucc : Fin 128).val < 127 := n.isLt
    have hc : (n.castSucc : Fin 128).val = n.val := rfl
    unfold band
    rw [hX s]
    by_cases h : 16 * n.val + o ≤ s.val ∧ s.val < 16 * n.val + o + 16
    · rw [if_pos ⟨hn, h⟩, if_pos h]
      rfl
    · rw [if_neg h, if_neg (fun e => h e.2), zero_mul]
  · refine Finset.sum_congr rfl fun j _ => ?_
    congr 2
    · exact Fin.ext (by dsimp only; omega)
    · exact congrArg F (Fin.ext (show _ = _ by (try dsimp only) <;> omega))
    · exact congrArg pe (Fin.ext (show _ = _ by (try dsimp only) <;> omega))

/-- Both halves of a window. -/
theorem band_both (w : Fin 32 → EReal) (n : Fin 127) (F : Fin 2048 → EReal) (pe : Fin 32 → EReal)
    (X Y : Fin 2048 → EReal) (hX : ∀ s, X s = F s + pe ⟨0 + s.val % 16, by omega⟩)
    (hY : ∀ s, Y s = F s + pe ⟨16 + s.val % 16, by omega⟩) :
    (∑ s, band w 0 n.castSucc s * X s) + (∑ s, band w 16 n.castSucc s * Y s)
      = ∑ j : Fin 32, w j * (F ⟨16 * n.val + j.val, by omega⟩ + pe j) := by
  rw [band_sum w 0 (.inl rfl) n F pe X hX, band_sum w 16 (.inr rfl) n F pe Y hY]
  refine Eq.trans ?_ (Fin.sum_univ_add (a := 16) (b := 16) (fun j : Fin 32 => w j * (F ⟨16 * n.val + j.val, by omega⟩ + pe j))).symm
  congr 1

/-- The row of a band past the last window sums to zero against anything. -/
theorem band_last (w : Fin 32 → EReal) (o : ℕ) (X : Fin 2048 → EReal) :
    (∑ s, band w o (Fin.last 127) s * X s) = 0 := by
  refine Finset.sum_eq_zero fun s _ => ?_
  simp [band]

/-- A sum that is at least 1e-6 is not zero. -/
theorem floor_pos (x : EReal) : max x (Ideal.ofBits .f32 0x358637BD#32) ≠ 0 := by
  have h : (0 : EReal) < Ideal.ofBits .f32 0x358637BD#32 := by
    simp [Ideal.ofBits, Ideal.ieee, -EReal.coe_mul]
  exact (lt_max_of_lt_right h).ne'

variable (m : (ℓ : Loc nD τ sig) → Buf (Elt Ideal) ℓ) (c : Dev nD)

section
variable (v : Vec Ideal S1x1 .f32) (y0 y2 : Vec Ideal S128x2048 .bf16) (y1 y3 : Vec Ideal S1x2048x128 .bf16) (n d : Fin 128)

/-- The compressed keys at an index, -/
theorem keys_apply : k0_pay4 (k0_pay3 v y0 y1 y2 y3) (ix2 n d)
    = Ideal.div (∑ x, y0 (ix2 n x) * y1 (ix3 0 x d) + ∑ x, y2 (ix2 n x) * y3 (ix3 0 x d)) (v (ix2 0 0)) := by
  pointwise [k0_pay4, k0_pay3]

/-- and the compressed values. -/
theorem values_apply : k0_pay5 (k0_pay1 v) (k0_pay2 y0 y1 y2 y3) (ix2 n d)
    = Ideal.div (∑ x, y0 (ix2 n x) * y1 (ix3 0 x d) + ∑ x, y2 (ix2 n x) * y3 (ix3 0 x d)) (v (ix2 0 0)) := by
  pointwise [k0_pay5, k0_pay1, k0_pay2]

end

/-- The element that holds the sum of the keys' weights, -/
theorem ld11_k (x11 : Vec Ideal S8x128 .f32) :
    (View.ld x11 (Rect.unit (s := S8x128) ![0, 0] S1x1.size inb_S8x128_S1x1_0_0)) (ix2 0 0) = x11 (ix2 0 0) := by
  pointwise []

/-- and that of the values' weights. -/
theorem ld11_v (x11 : Vec Ideal S8x128 .f32) :
    (View.ld x11 (Rect.unit (s := S8x128) ![1, 0] S1x1.size inb_S8x128_S1x1_1_0)) (ix2 0 0) = x11 (ix2 1 0) := by
  pointwise []

/-- The compressed keys' block of a point is the mean of each window, -/
theorem ckAt_apply (t : Fin cfg0.N) (n : Fin 127) (d : Fin 128) :
    ckAt m c t (ix2 n.castSucc d) = comp (kargs m c).wk (kargs m c).pk (kargs m c).k n (hOf t) d := by
  unfold ckAt ckS
  rw [keys_apply, ld11_k, in11_k]
  unfold comp
  congr 1
  simp only [in7, in8]
  exact band_both _ n (fun s => (kargs m c).k s (hOf t) d) (fun j => (kargs m c).pk j d) _ _ (fun s => in3 m c t s d) (fun s => in4 m c t s d)

/-- The compressed keys past the last window are zero, -/
theorem ckAt_last (t : Fin cfg0.N) (d : Fin 128) : ckAt m c t (ix2 (Fin.last 127) d) = 0 := by
  unfold ckAt ckS
  rw [keys_apply, ld11_k, in11_k]
  simp only [in7, in8, band_last]
  simp [Ideal.div, floor_pos]

/-- and the compressed values'. -/
theorem cvAt_apply (t : Fin cfg0.N) (n : Fin 127) (d : Fin 128) :
    cvAt m c t (ix2 n.castSucc d) = comp (kargs m c).wv (kargs m c).pv (kargs m c).v n (hOf t) d := by
  unfold cvAt cvS
  rw [values_apply, ld11_v, in11_v]
  unfold comp
  congr 1
  simp only [in9, in10]
  exact band_both _ n (fun s => (kargs m c).v s (hOf t) d) (fun j => (kargs m c).pv j d) _ _ (fun s => in5 m c t s d) (fun s => in6 m c t s d)

/-- and so are the compressed values. -/
theorem cvAt_last (t : Fin cfg0.N) (d : Fin 128) : cvAt m c t (ix2 (Fin.last 127) d) = 0 := by
  unfold cvAt cvS
  rw [values_apply, ld11_v, in11_v]
  simp only [in9, in10, band_last]
  simp [Ideal.div, floor_pos]

/-- The compressed keys depend on the head alone, -/
theorem ck_same (t u : Fin cfg0.N) (h : hOf t = hOf u) : ckAt m c t = ckAt m c u := by
  funext i
  obtain ⟨n, d, rfl⟩ : ∃ (n d : Fin 128), i = ix2 n d := ⟨i 0, i 1, by funext k; fin_cases k <;> rfl⟩
  induction n using Fin.lastCases with
  | last => rw [ckAt_last, ckAt_last]
  | cast n => rw [ckAt_apply, ckAt_apply, h]

/-- and so do the compressed values. -/
theorem cv_same (t u : Fin cfg0.N) (h : hOf t = hOf u) : cvAt m c t = cvAt m c u := by
  funext i
  obtain ⟨n, d, rfl⟩ : ∃ (n d : Fin 128), i = ix2 n d := ⟨i 0, i 1, by funext k; fin_cases k <;> rfl⟩
  induction n using Fin.lastCases with
  | last => rw [cvAt_last, cvAt_last]
  | cast n => rw [cvAt_apply, cvAt_apply, h]

/-- Every point finds, or computes, its own head's compressed keys and values. -/
theorem carried (k : ℕ) (hk : k < cfg0.N) : outsAt0 (F := Ideal) m c k hk
    = (written m c ⟨k, hk⟩ (ckAt m c ⟨k, hk⟩) (cvAt m c ⟨k, hk⟩), ckAt m c ⟨k, hk⟩, cvAt m c ⟨k, hk⟩) := by
  induction k with
  | zero => exact opened_A m c ⟨0, hk⟩ rfl
  | succ k ih =>
    by_cases h0 : (k + 1) % 4 = 0
    · exact opened_A m c ⟨k + 1, hk⟩ h0
    · have e := ih (by omega)
      have hh : hOf ⟨k, by omega⟩ = hOf ⟨k + 1, hk⟩ := Fin.ext (by simp only [hOf]; omega)
      refine opened_B m c ⟨k + 1, hk⟩ h0 _ _ ?_ ?_
      · exact (congrArg (fun z => z.2.1) e).trans (ck_same m c _ _ hh)
      · exact (congrArg (fun z => z.2.2) e).trans (cv_same m c _ _ hh)

/-! ## The softmax over the windows -/

/-- The start of a maximum. -/
theorem ofBits_neg_inf : Ideal.ofBits .f32 0xFF800000#32 = ⊥ := ofBits_bot

/-- The scale of the scores. -/
theorem named_s : Named.named (F := Ideal) Cert.KernelIdeal.κ "s" (φ := .f32) 0x3DB504F3#32 = root :=
  IdealRules.named_const.ideal_named_scalar _ _ _ _ rfl

/-- The mask. -/
theorem named_mask : Named.named (F := Ideal) Cert.KernelIdeal.κ "mask" (φ := .f32) 0xF149F2CA#32 = ⊥ :=
  IdealRules.named_const.ideal_named_scalar _ _ _ _ rfl

section
variable (x : Fin 128 → EReal) (P : Fin 128 → Prop) [DecidablePred P]

/-- A score and its mask as a summand. -/
theorem exp_masked (a T : EReal) (p : Prop) [Decidable p] :
    Ideal.exp (a + (if p then 0 else ⊥) - T) = if p then Ideal.exp (a - T) else 0 := by
  by_cases h : p
  · simp [h]
  · simp [h, EReal.bot_sub, exp_bot]

/-- The windows, and the row past them. -/
theorem univ_last : (Finset.univ : Finset (Fin 128))
    = Finset.cons (Fin.last 127) (Finset.univ.map Fin.castSuccEmb) (by
      simp only [Finset.mem_map, Finset.mem_univ, true_and, not_exists]
      exact fun k => (Fin.castSucc_lt_last k).ne) :=
  Fin.univ_castSuccEmb 127

/-- The windows' greatest score does not see the window that is not there. -/
theorem fold_windows (hP : ¬ P (Fin.last 127)) :
    (Finset.univ.fold max ⊥ fun n => x n + if P n then 0 else ⊥)
      = top (fun k : Fin 127 => x k.castSucc) (fun k => P k.castSucc) := by
  rw [univ_last, Finset.fold_cons, Finset.fold_map]
  simp only [hP, if_false, EReal.add_bot, bot_le, sup_of_le_right, max_eq_right]
  unfold top
  refine Finset.fold_congr fun k _ => ?_
  by_cases h : P k.castSucc <;> simp [h]

/-- The softmax over the windows is the softmax over those there are. -/
theorem softmax_windows (hP : ¬ P (Fin.last 127)) (n : Fin 128) (f : Fin 128 → EReal)
    (hf : ∀ n, f n = x n + if P n then 0 else ⊥) :
    Ideal.div (Ideal.exp (f n - Finset.univ.fold max ⊥ f))
        (max (∑ k, Ideal.exp (f k - Finset.univ.fold max ⊥ f)) tiny)
      = if h : n.val < 127 then sm (fun k : Fin 127 => x k.castSucc) (fun k => P k.castSucc) ⟨n.val, h⟩ else 0 := by
  obtain rfl : f = fun n => x n + if P n then 0 else ⊥ := funext hf
  rw [fold_windows x P hP]
  simp only [exp_masked]
  rw [Fin.sum_univ_castSucc]
  simp only [hP, if_false, add_zero]
  induction n using Fin.lastCases with
  | last =>
    rw [if_neg hP, dif_neg (by simp)]
    obtain ⟨r, hr, hr0, _⟩ := tiny_real
    have : (0 : EReal) < tiny := by rw [hr]; exact_mod_cast hr0
    rw [Ideal.div, if_neg (lt_max_of_lt_right this).ne', zero_mul]
  | cast n =>
    rw [dif_pos (by simp)]
    rfl

end

/-- The group of a point. -/
theorem coords_group : ∀ t : Fin cfg0.N, (grid0.coords t 1).val = (jOf t).val := by
  decide +kernel

/-- The word of a query's token. -/
theorem tval_word : ∀ (j : Fin 4) (r : Fin 2048), IntOp.addi (Scalar.muli (512#32) (BitVec.ofNat 32 j.val))
      (Scalar.select
        (IntOp.andi
          (IntOp.xori
            (IntOp.cmpi CmpIPredicate.slt
              (IntOp.remsi ArithUnit.vector (BitVec.ofNat 32 r.val)
                (Scalar.select (Scalar.cmpi CmpIPredicate.eq 512#32 0#32) 1#32 512#32))
              0#32)
            (Scalar.cmpi CmpIPredicate.slt (Scalar.select (Scalar.cmpi CmpIPredicate.eq 512#32 0#32) 1#32 512#32) 0#32))
          (IntOp.cmpi CmpIPredicate.ne
            (IntOp.remsi ArithUnit.vector (BitVec.ofNat 32 r.val)
              (Scalar.select (Scalar.cmpi CmpIPredicate.eq 512#32 0#32) 1#32 512#32))
            0#32))
        (IntOp.addi
          (IntOp.remsi ArithUnit.vector (BitVec.ofNat 32 r.val)
            (Scalar.select (Scalar.cmpi CmpIPredicate.eq 512#32 0#32) 1#32 512#32))
          (Scalar.select (Scalar.cmpi CmpIPredicate.eq 512#32 0#32) 1#32 512#32))
        (IntOp.remsi ArithUnit.vector (BitVec.ofNat 32 r.val)
          (Scalar.select (Scalar.cmpi CmpIPredicate.eq 512#32 0#32) 1#32 512#32)))
    = BitVec.ofNat 32 (tok j r).val := by
  decide +kernel

section
variable (t : Fin cfg0.N) (r : Fin 2048)

/-- Column `r` is the query of its token. -/
theorem tval_apply : k0_pay7 (grid0.coords t) (ix2 0 r) = BitVec.ofNat 32 (tok (jOf t) r).val := by
  rw [← tval_word, ← coords_group]
  pointwise [k0_pay7]

/-- The tokens of a point's queries, per window, -/
theorem tvals_apply (n : Fin 128) : k0_pay10 (grid0.coords t) (ix2 n r) = BitVec.ofNat 32 (tok (jOf t) r).val := by
  rw [← tval_apply]
  pointwise [k0_pay10]

/-- and the windows' last tokens. -/
theorem ends_apply (n : Fin 128) : k0_pay9 (ix2 n r) = BitVec.ofNat 32 (16 * n.val + 31) := by
  have e : k0_pay9 (ix2 n r) = IntOp.subi (IntOp.addi (IntOp.muli (16#32) (BitVec.ofNat 32 n.val)) 32#32) 1#32 := by
    pointwise [k0_pay9]
  rw [e]
  clear e
  revert n
  decide +kernel

/-- The queries of a point. -/
theorem q2_apply (d : Fin 128) : k0_pay6 (iblk m c 0 t) (ix2 r d)
    = (kargs m c).q (tok (jOf t) r) (hd (hOf t) r) d := by
  refine Eq.trans ?_ (in0 m c t ⟨r.val / 512, by omega⟩ ⟨r.val % 512, by omega⟩ d)
  pointwise [k0_pay6]

/-- The key head of a query head. -/
theorem kv_hd (h : Fin 4) : kv (hd h r) = h := by
  apply Fin.ext
  simp only [kv, hd]
  omega

/-- The products with the compressed keys. -/
theorem scores_apply (x0 : Vec Ideal S1x4x512x128 .f32) (ck : Vec Ideal S128x128 .bf16) (n : Fin 128) :
    k0_pay8 x0 ck (ix2 n r) = ∑ x, ck (ix2 n x) * k0_pay6 x0 (ix2 r x) := by
  pointwise [k0_pay8]

/-- The weights of the windows, -/
def pcK : FVec Ideal S128x2048 .f32 :=
  k0_pay11 (k0_pay8 (iblk m c 0 t) (ckAt m c t)) mmS k0_pay9 (k0_pay10 (grid0.coords t))

/-- The compressed branch's weights, from the masked scores. -/
theorem weights_apply (v28 : FVec Ideal S128x2048 .f32) (v36 v37 : IVec S128x2048 32) (T : Fin 2048)
    (h36 : ∀ n, v36 (ix2 n r) = BitVec.ofNat 32 (16 * n.val + 31)) (h37 : ∀ n, v37 (ix2 n r) = BitVec.ofNat 32 T.val)
    (n : Fin 128) : k0_pay11 v28 mmS v36 v37 (ix2 n r)
      = if h : n.val < 127 then sm (fun k : Fin 127 => v28 (ix2 k.castSucc r) * root)
          (fun k => 16 * k.val + 31 ≤ T.val) ⟨n.val, h⟩ else 0 := by
  have key := softmax_windows (fun n => v28 (ix2 n r) * root) (fun n => 16 * n.val + 31 ≤ T.val ∧ n.val < 127)
    (by simp) n
    (fun x => v28 (ix2 x r) * Named.named (F := Ideal) κ "s" (φ := .f32) 1035273459#32 +
                Scalar.select
                  (IntOp.andi (IntOp.cmpi CmpIPredicate.sle (v36 (ix2 x r)) (v37 (ix2 x r)))
                    (IntOp.cmpi CmpIPredicate.slt (BitVec.ofNat 32 x.val) 127#32))
                  0 (Named.named (F := Ideal) κ "mask" (φ := .f32) 4048155338#32)) (fun x => by
      rw [named_s, named_mask, h36, h37, WordCmp.cmpi_sle_ofNat (by omega) (by omega),
        WordCmp.cmpi_slt_ofNat (b := 127) (by omega) (by omega), WordCmp.andi_ofBool, WordCmp.select_ofBool]
      simp)
  refine Eq.trans ?_ (key.trans ?_)
  · rw [← ofBits_neg_inf]
    unfold tiny
    pointwise [k0_pay11, mmS]
  · congr 1
    funext h
    congr 1
    funext k
    have : k.castSucc.val < 127 := k.isLt
    simp [this]

/-- and which ones they are. -/
theorem pcK_apply (n : Fin 127) : pcK m c t (ix2 n.castSucc r) = (kargs m c).pc (tok (jOf t) r) (hd (hOf t) r) n := by
  unfold pcK
  rw [weights_apply r _ _ _ (tok (jOf t) r) (fun n => ends_apply r n) (fun n => tvals_apply t r n), dif_pos (by exact n.isLt)]
  unfold Args.pc
  refine congrFun (congrArg (fun x => sm x _) ?_) n
  funext k
  unfold Args.cscore
  rw [scores_apply]
  refine congrArg (· * root) (Finset.sum_congr rfl fun d _ => ?_)
  rw [ckAt_apply, q2_apply, kv_hd, mul_comm]

/-- The row past the last window has no weight. -/
theorem pcK_last : pcK m c t (ix2 (Fin.last 127) r) = 0 := by
  unfold pcK
  rw [weights_apply r _ _ _ (tok (jOf t) r) (fun n => ends_apply r n) (fun n => tvals_apply t r n), dif_neg (by simp)]

/-- What the mask drops has no weight. -/
theorem sm_none {n : ℕ} (x : Fin n → EReal) (M : Fin n → Prop) [DecidablePred M] (s : Fin n) (h : ¬ M s) : sm x M s = 0 := by
  obtain ⟨r, hr, hr0, _⟩ := tiny_real
  have : (0 : EReal) < tiny := by rw [hr]; exact_mod_cast hr0
  unfold sm
  rw [if_neg h, Ideal.div, if_neg (lt_max_of_lt_right this).ne', zero_mul]

/-- The compressed branch's mean of values. -/
theorem mix_apply (v26 : IVec S1x2048 32) (v28 : FVec Ideal S128x2048 .f32) (v36 v37 : IVec S128x2048 32)
    (v60 : Vec Ideal S128x128 .bf16) (d : Fin 128) : k0_pay12 v26 v28 mmS v36 v37 v60 (ix2 d r)
    = Scalar.select (IntOp.cmpi CmpIPredicate.sge (v26 (ix2 0 r)) 31#32)
      (∑ x, v60 (ix2 x d) * k0_pay11 v28 mmS v36 v37 (ix2 x r)) (0 : EReal) := by
  pointwise [k0_pay12]

/-- The compressed branch of a point. -/
theorem outC_apply (d : Fin 128) : outC (grid0.coords t) (iblk m c 0 t) (ckAt m c t) (cvAt m c t) (ix2 d r)
    = (kargs m c).outCmp (tok (jOf t) r) (hd (hOf t) r) d := by
  unfold outC
  rw [mix_apply, tval_apply, WordCmp.cmpi_sge_ofNat (b := 31) (by omega) (by omega), WordCmp.select_ofBool]
  unfold Args.outCmp
  have key : (∑ x, cvAt m c t (ix2 x d) * pcK m c t (ix2 x r))
      = ∑ k, comp (kargs m c).wv (kargs m c).pv (kargs m c).v k (kv (hd (hOf t) r)) d
          * (kargs m c).pc (tok (jOf t) r) (hd (hOf t) r) k := by
    rw [Fin.sum_univ_castSucc, pcK_last, mul_zero, add_zero]
    refine Finset.sum_congr rfl fun k _ => ?_
    rw [cvAt_apply, pcK_apply, kv_hd]
  by_cases h : 31 ≤ (tok (jOf t) r).val
  · rw [← key]
    simp [h]
    rfl
  · simp only [h, decide_false]
    symm
    refine Finset.sum_eq_zero fun k _ => ?_
    rw [Args.pc, sm_none _ _ _ (by omega), mul_zero]

/-! ## The blocks' scores -/

/-- The column of the block's scores that column `r` of the attention goes by. -/
def rc : Fin 512 := ⟨r.val % 512, by omega⟩

/-- The sum of the four heads' weights, by block. -/
theorem heads_apply (v28 : FVec Ideal S128x2048 .f32) (v36 v37 : IVec S128x2048 32) (v77 : Vec Ideal S32x128 .f32)
    (n : Fin 32) (q : Fin 512) : k0_pay13 v28 mmS v36 v37 v77 (ix2 n q)
    = ∑ x, v77 (ix2 n x) *
        (k0_pay11 v28 mmS v36 v37 (ix2 x ⟨q.val, by omega⟩) + k0_pay11 v28 mmS v36 v37 (ix2 x ⟨512 + q.val, by omega⟩) +
            k0_pay11 v28 mmS v36 v37 (ix2 x ⟨1024 + q.val, by omega⟩) +
          k0_pay11 v28 mmS v36 v37 (ix2 x ⟨1536 + q.val, by omega⟩)) := by
  pointwise [k0_pay13]

/-- The word of a token's own block. -/
theorem cur_word : ∀ (j : Fin 4) (q : Fin 512), IntOp.addi (Scalar.muli (8#32) (BitVec.ofNat 32 j.val))
              (Scalar.select
                (IntOp.andi
                  (IntOp.cmpi CmpIPredicate.ne
                    (IntOp.subi (BitVec.setWidth 32 (IntOp.cmpi CmpIPredicate.sgt (BitVec.ofNat 32 q.val) 0#32))
                      (BitVec.setWidth 32 (IntOp.cmpi CmpIPredicate.slt (BitVec.ofNat 32 q.val) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 q.val) 64#32) 0#32))
                (IntOp.subi (IntOp.divsi ArithUnit.vector (BitVec.ofNat 32 q.val) 64#32) 1#32)
                (IntOp.divsi ArithUnit.vector (BitVec.ofNat 32 q.val) 64#32))
    = BitVec.ofNat 32 ((512 * j.val + q.val) / 64) := by
  decide +kernel

/-- What the forced blocks add. -/
theorem forced_apply (i : grid0.Coords) (j : Fin 4) (hj : (i 1).val = j.val) (v : FVec Ideal S32x512 .f32) (n : Fin 32)
    (q : Fin 512) : k0_pay14 (qjW i) v nnS 8#32 (ix2 n q)
      = v (ix2 n q) + if n.val = (512 * j.val + q.val) / 64 ∨ n.val = 0 then Args.big else 0 := by
  have e := cur_word j q
  rw [show BitVec.ofNat 32 j.val = qjW i from by unfold qjW; rw [hj]] at e
  have := n.isLt
  have := q.isLt
  have := j.isLt
  refine Eq.trans (b := v (ix2 n q) + Scalar.select (IntOp.ori
      (IntOp.cmpi CmpIPredicate.eq (BitVec.ofNat 32 n.val) (BitVec.ofNat 32 ((512 * j.val + q.val) / 64)))
      (IntOp.cmpi CmpIPredicate.eq (BitVec.ofNat 32 n.val) 0#32)) (Ideal.ofBits FTy.f32 1315859240#32) 0) ?_ ?_
  · rw [← e]
    pointwise [k0_pay14, nnS]
  · rw [WordCmp.cmpi_eq_ofNat (by omega) (by omega), WordCmp.cmpi_eq_ofNat (b := 0) (by omega) (by omega),
      WordCmp.ori_ofBool, WordCmp.select_ofBool]
    simp [Args.big]

/-- The blocks' scores of a point, by column. -/
theorem selW_apply (n : Fin 32) : selW (grid0.coords t) (iblk m c 0 t) (iblk m c 14 t) (ckAt m c t) (ix2 n (rc r))
    = (kargs m c).base (tok (jOf t) r) (hOf t) n
      + if n.val = (tok (jOf t) r).val / 64 ∨ n.val = 0 then Args.big else 0 := by
  unfold selW
  rw [forced_apply _ (jOf t) (coords_group t)]
  refine congrArg (· + _) ?_
  rw [heads_apply, Fin.sum_univ_castSucc]
  have hc : ∀ (a : Fin 4) (r' : Fin 2048) (h : r'.val = 512 * a.val + r.val % 512) (k : Fin 127),
      pcK m c t (ix2 k.castSucc r') = (kargs m c).pc (tok (jOf t) r) (qh (hOf t) a) k := by
    intro a r' h k
    rw [pcK_apply]
    rw [show tok (jOf t) r' = tok (jOf t) r from Fin.ext (by simp only [tok]; omega),
      show hd (hOf t) r' = qh (hOf t) a from Fin.ext (by simp only [hd, qh]; omega)]
  have hl := fun r' => pcK_last m c t r'
  unfold pcK at hc hl
  simp only [hl, add_zero, mul_zero]
  unfold Args.base
  refine Finset.sum_congr rfl fun k _ => ?_
  rw [hc 0 _ (by simp [rc]), hc 1 _ (by simp [rc]), hc 2 _ (by simp [rc]), hc 3 _ (by simp [rc]), in14,
    Fin.sum_univ_four, mul_comm]
  rfl

end

end Cert.Proof
-- ==== Proof.Select.lean ====
module
public import proofs.«01_k».proof.Proof.Compress

/-!
# The rounds that pick a point's blocks
-/

@[expose] public section
set_option maxRecDepth 65536
noncomputable section
open Idealize.ShloMosaic Idealize.SL.Sem
namespace Cert.Proof
open Cert.KernelIdeal Cert.KernelIdeal.Gen
open Classical

/-- A maximum from `⊥` is the greatest value. -/
theorem eq_fold_max {n : ℕ} (w : Fin n → EReal) (a : Fin n) :
    w a = Finset.univ.fold max ⊥ w ↔ ∀ b, w b ≤ w a := by
  have hle : ∀ b, w b ≤ Finset.univ.fold max ⊥ w := fun b =>
    (Finset.le_fold_max _).mpr (.inr ⟨b, Finset.mem_univ _, le_rfl⟩)
  constructor
  · intro h b
    rw [h]
    exact hle b
  · intro h
    exact le_antisymm (hle a) ((Finset.fold_max_le _).mpr ⟨bot_le, fun b _ => h b⟩)

/-- The lesser of two words is the word of the lesser. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt, WordCmp.toInt_ofNat_of_lt (by omega), WordCmp.toInt_ofNat_of_lt (by omega)]
  by_cases h : a < b
  · simp [h, h.le]
  · simp [h, le_of_not_gt h]

/-- The least of some index words. -/
theorem fold_minsi (S : Finset (Fin 32)) (f : Fin 32 → ℕ) (hf : ∀ x, f x < 2 ^ 31) :
    S.fold IntOp.minsi (2147483647#32) (fun x => BitVec.ofNat 32 (f x)) = BitVec.ofNat 32 (S.fold min 2147483647 f)
      ∧ S.fold min 2147483647 f < 2 ^ 31 := by
  induction S using Finset.cons_induction with
  | empty => exact ⟨rfl, by simp⟩
  | cons a S h ih =>
    rw [Finset.fold_cons, Finset.fold_cons, ih.1, minsi_ofNat (hf a) ih.2]
    exact ⟨rfl, lt_of_le_of_lt (min_le_left _ _) (hf a)⟩

/-- The least number, by words, of the positions with a property. -/
theorem min_word (P : Fin 32 → Prop) [DecidablePred P] (a : Fin 32) (ha : P a) (hm : ∀ b, b < a → ¬ P b) :
    Finset.univ.fold IntOp.minsi (2147483647#32)
      (fun x : Fin 32 => Scalar.select (BitVec.ofBool (decide (P x))) (BitVec.ofNat 32 x.val) 32#32)
      = BitVec.ofNat 32 a.val := by
  have e : (fun x : Fin 32 => Scalar.select (BitVec.ofBool (decide (P x))) (BitVec.ofNat 32 x.val) 32#32)
      = fun x => BitVec.ofNat 32 (if P x then x.val else 32) := by
    funext x
    rw [WordCmp.select_ofBool]
    by_cases h : P x <;> simp [h]
  rw [e, (fold_minsi Finset.univ _ fun x => by split <;> omega).1]
  congr 1
  refine le_antisymm ((Finset.fold_min_le _).mpr (.inr ⟨a, Finset.mem_univ _, by simp [ha]⟩))
    ((Finset.le_fold_min _).mpr ⟨by omega, fun x _ => ?_⟩)
  by_cases h : P x
  · rw [if_pos h]
    exact le_of_not_gt fun hx => hm x hx h
  · rw [if_neg h]
    omega

variable (w : Wt) (n : Fin 32) (r : Fin 512)

/-- Column `r` of the scores. -/
def colW : Fin 32 → EReal := fun n => w (ix2 n r)

/-- A round's candidates are the blocks with the greatest sum, -/
theorem eqV_apply : eqV w (ix2 n r) = BitVec.ofBool (decide (∀ b, colW w r b ≤ colW w r n)) := by
  have e : eqV w (ix2 n r) = BitVec.ofBool
      (decide (w (ix2 n r) = Finset.fold max (Ideal.ofBits FTy.f32 4286578688#32) (fun x => w (ix2 x r)) Finset.univ)) := by
    pointwise [eqV]
  rw [e]
  refine congrArg BitVec.ofBool (decide_eq_decide.mpr ?_)
  rw [ofBits_neg_inf]
  exact eq_fold_max (colW w r) n

/-- its pick is the first of them, -/
theorem firstV_apply : firstV w (ix2 n r) = BitVec.ofBool (decide (firstMax (colW w r) n)) := by
  have e : firstV w (ix2 n r) = IntOp.cmpi CmpIPredicate.eq (BitVec.ofNat 32 n.val)
      (Finset.fold IntOp.minsi (2147483647#32) (fun x => Scalar.select (eqV w (ix2 x r)) (BitVec.ofNat 32 x.val) 32#32)
        Finset.univ) := by
    pointwise [firstV, nnS, nnB, s32]
  rw [e]
  simp only [eqV_apply]
  obtain ⟨a, ha⟩ := exists_firstMax (colW w r) (by decide)
  rw [min_word (fun x => ∀ b, colW w r b ≤ colW w r x) a ha.1 (fun b hb h => ha.2 b hb (le_antisymm (ha.1 b) (h a))),
    WordCmp.cmpi_eq_ofNat (by omega) (by omega)]
  refine congrArg BitVec.ofBool (decide_eq_decide.mpr ⟨fun h => ?_, fun h => ?_⟩)
  · rwa [Fin.ext h]
  · rw [firstMax_unique _ h ha]

/-- which it knocks out. -/
theorem knockV_apply : colW (knockV w) r = knock (colW w r) := by
  funext n
  have e : knockV w (ix2 n r) = Scalar.select (firstV w (ix2 n r)) (Ideal.ofBits FTy.f32 4286578688#32) (w (ix2 n r)) := by
    pointwise [knockV]
  show knockV w (ix2 n r) = _
  rw [e, firstV_apply, WordCmp.select_ofBool, ofBits_neg_inf]
  unfold knock
  by_cases h : firstMax (colW w r) n <;> simp [h, colW]

/-- The rounds, column by column. -/
theorem wV_apply (k : ℕ) : colW (wV w k) r = knocked (colW w r) k := by
  induction k with
  | zero => rfl
  | succ k ih =>
    show colW (knockV (wV w k)) r = knock (knocked (colW w r) k)
    rw [knockV_apply, ih]

/-- The blocks picked after some rounds. -/
theorem pV_apply (k : ℕ) : pV w k (ix2 n r) = BitVec.ofBool (decide (picked (colW w r) k n)) := by
  induction k with
  | zero => exact (congrArg BitVec.ofBool (decide_eq_false (p := picked (colW w r) 0 n) id)).symm
  | succ k ih =>
    show IntOp.ori (pV w k (ix2 n r)) (firstV (wV w k) (ix2 n r)) = _
    rw [ih, firstV_apply, wV_apply, WordCmp.ori_ofBool]
    refine congrArg BitVec.ofBool ?_
    by_cases h : picked (colW w r) k n <;> by_cases h' : firstMax (knocked (colW w r) k) n <;> simp [picked, h, h']

/-- What the attention adds to a score for its key's block: nothing if the block is picked, else `⊥`. -/
def addB (v358 : Bt) (v364 : Bt) : FVec Ideal S32x2048 .bf16 := k0_pay68 nnS v358 v364 nnB s32

/-- The four heads share the blocks. -/
theorem concat4 (v : FVec Ideal S32x512 .bf16) (q : Fin 2048) :
    concatenate S32x2048 1 [⟨S32x512, v⟩, ⟨S32x512, v⟩, ⟨S32x512, v⟩, ⟨S32x512, v⟩]
      concatenates_S32x512_S32x512_S32x512_S32x512_S32x2048_d1 (ix2 n q) = v (ix2 n (rc q)) := by
  pointwise []
  have := q.isLt
  split_ifs <;> exact congrArg (fun z => v (ix2 n z)) (Fin.ext (by simp only [rc]; omega))

/-- A block adds zero where the sixteen rounds pick it and minus infinity elsewhere. -/
theorem addB_apply (q : Fin 2048) : addB (pV w 15) (eqV (wV w 15)) (ix2 n q)
    = if picked (colW w (rc q)) 16 n then 0 else ⊥ := by
  have e : addB (pV w 15) (eqV (wV w 15)) (ix2 n q)
      = Scalar.select (IntOp.ori (pV w 15 (ix2 n (rc q))) (firstV (wV w 15) (ix2 n (rc q)))) (0 : EReal)
          (Named.named (F := Ideal) κ "mask" (φ := .f32) 4048155338#32) := by
    unfold addB k0_pay68
    dsimp only
    rw [concat4]
    pointwise [firstV]
  rw [e, pV_apply, firstV_apply, wV_apply, WordCmp.ori_ofBool, WordCmp.select_ofBool, named_mask]
  simp [picked]

end Cert.Proof
-- ==== Proof.Order.lean ====
module
public import proofs.«01_k».proof.Proof.Select

/-!
# The rounds pick the blocks that a sort by the reference's scores puts first
-/

@[expose] public section
noncomputable section
open Idealize.ShloMosaic Idealize.SL.Sem
namespace Cert.Proof
open Cert.KernelIdeal Cert.KernelIdeal.Gen
open Classical

/-- A score less one that is no less has an exponential between nothing and one. -/
theorem exp_unit (a b : EReal) (h : a ≤ b) : ∃ p : ℝ, Ideal.exp (a - b) = (p : EReal) ∧ 0 ≤ p ∧ p ≤ 1 := by
  have h0 : a - b ≤ 0 := EReal.sub_nonpos.mpr h
  generalize a - b = z at h0
  induction z with
  | bot => exact ⟨0, by simp [exp_bot], le_rfl, zero_le_one⟩
  | coe z => exact ⟨Real.exp z, exp_coe z, (Real.exp_pos z).le, Real.exp_le_one_iff.mpr (by exact_mod_cast h0)⟩
  | top => simp at h0

/-- A softmax's values lie between nothing and one. -/
theorem sm_unit {n : ℕ} (x : Fin n → EReal) (M : Fin n → Prop) [DecidablePred M] (s : Fin n) :
    ∃ p : ℝ, sm x M s = (p : EReal) ∧ 0 ≤ p ∧ p ≤ 1 := by
  have he : ∀ s, ∃ p : ℝ, (if M s then Ideal.exp (x s - top x M) else 0) = (p : EReal) ∧ 0 ≤ p ∧ p ≤ 1 := by
    intro s
    by_cases h : M s
    · rw [if_pos h]
      refine exp_unit _ _ ((Finset.le_fold_max _).mpr (.inr ⟨s, Finset.mem_univ _, ?_⟩))
      rw [if_pos h]
    · exact ⟨0, by simp [h], le_rfl, zero_le_one⟩
  choose e he h0 h1 using he
  obtain ⟨y, hy, hy0, _⟩ := tiny_real
  have hs : e s ≤ max (∑ s, e s) y := le_max_of_le_left (Finset.single_le_sum (fun s _ => h0 s) (Finset.mem_univ s))
  have hp : 0 < max (∑ s, e s) y := lt_max_of_lt_right hy0
  refine ⟨e s * (max (∑ s, e s) y)⁻¹, ?_, mul_nonneg (h0 s) (inv_nonneg.mpr hp.le), ?_⟩
  · unfold sm
    simp only [he]
    rw [sum_coe, hy, show max (((∑ s, e s : ℝ)) : EReal) (y : EReal) = ((max (∑ s, e s) y : ℝ) : EReal) from
      (EReal.coe_strictMono.monotone.map_max).symm, div_pos_real _ _ hp, EReal.coe_mul]
  · rw [← div_eq_mul_inv]
    exact (div_le_one hp).mpr hs

/-- What the heads give a block is a real number of moderate size. -/
theorem base_real (A : Args) (t : Fin 2048) (h : Fin 4) (n : Fin 32) :
    ∃ b : ℝ, A.base t h n = (b : EReal) ∧ 0 ≤ b ∧ b ≤ 508 := by
  have hp : ∀ r k, ∃ p : ℝ, A.pc t (qh h r) k = (p : EReal) ∧ 0 ≤ p ∧ p ≤ 1 := fun r k => sm_unit _ _ _
  choose p hp h0 h1 using hp
  refine ⟨∑ k : Fin 127, (∑ r, p r k) * (if k.val / 4 = n.val then 1 else 0), ?_, ?_, ?_⟩
  · unfold Args.base
    rw [← sum_coe]
    refine Finset.sum_congr rfl fun k _ => ?_
    simp only [hp]
    rw [sum_coe, EReal.coe_mul]
    split_ifs <;> simp
  · exact Finset.sum_nonneg fun k _ => mul_nonneg (Finset.sum_nonneg fun r _ => h0 r k) (by split_ifs <;> simp)
  · calc _ ≤ ∑ k : Fin 127, (4 : ℝ) := Finset.sum_le_sum fun k _ => by
          have h4 : ∑ r, p r k ≤ ∑ r : Fin 4, (1 : ℝ) := Finset.sum_le_sum fun r _ => h1 r k
          have h3 : 0 ≤ ∑ r, p r k := Finset.sum_nonneg fun r _ => h0 r k
          simp at h4
          split_ifs <;> linarith
      _ = 508 := by norm_num

/-- What is added for a forced block is a real, 10^9. -/
theorem big_real : Args.big = ((1000000000 : ℝ) : EReal) := by
  unfold Args.big
  simp [Ideal.ofBits, Ideal.ieee, -EReal.coe_mul]
  norm_num

/-- Forcing a block once, where it is the token's own or the first, orders the blocks as forcing it once for each does. -/
theorem order_same (b : Fin 32 → ℝ) (h0 : ∀ n, 0 ≤ b n) (h1 : ∀ n, b n ≤ 508) (cur : ℕ) :
    gtB (fun n : Fin 32 => (b n : EReal) + if n.val = cur ∨ n.val = 0 then Args.big else 0)
      = gtB (fun n : Fin 32 => (b n : EReal)
          + Args.big * ((if n.val = cur then 1 else 0) + (if n.val = 0 then 1 else 0))) := by
  have eK : ∀ n : Fin 32, ((b n : EReal) + if n.val = cur ∨ n.val = 0 then Args.big else 0)
      = ((b n + if n.val = cur ∨ n.val = 0 then 1000000000 else 0 : ℝ) : EReal) := fun n => by
    rw [big_real]; split_ifs <;> push_cast <;> rfl
  have eS : ∀ n : Fin 32, ((b n : EReal) + Args.big * ((if n.val = cur then 1 else 0) + (if n.val = 0 then 1 else 0)))
      = ((b n + 1000000000 * ((if n.val = cur then 1 else 0) + (if n.val = 0 then 1 else 0)) : ℝ) : EReal) := fun n => by
    rw [big_real]; split_ifs <;> push_cast <;> rfl
  simp only [eK, eS]
  funext n k
  unfold gtB
  refine decide_eq_decide.mpr ?_
  rw [EReal.coe_lt_coe_iff, EReal.coe_lt_coe_iff]
  rcases eq_or_ne n k with rfl | hne
  · simp
  · have hv : n.val ≠ k.val := fun h => hne (Fin.ext h)
    have := h0 n; have := h0 k; have := h1 n; have := h1 k
    split_ifs <;> first | (exfalso; omega) | (constructor <;> intro h <;> linarith)

/-- A block that is forced has a greater sum than one that is not. -/
theorem forced_gt (x y : ℝ) (hx : x ≤ 508) (hy : 0 ≤ y) (b : Prop) [Decidable b] :
    (x : EReal) + Args.big * ((if False then 1 else 0) + (if False then 1 else 0))
      < (y : EReal) + Args.big * ((if True then 1 else 0) + (if b then 1 else 0)) := by
  have e : ∀ (z : ℝ) (p q : Prop) [Decidable p] [Decidable q],
      (z : EReal) + Args.big * ((if p then 1 else 0) + (if q then 1 else 0))
        = ((z + 1000000000 * ((if p then 1 else 0) + (if q then 1 else 0)) : ℝ) : EReal) := fun z p q _ _ => by
    rw [big_real]; split_ifs <;> push_cast <;> rfl
  rw [e, e, EReal.coe_lt_coe_iff]
  split_ifs <;> first | contradiction | linarith

/-- A token's own block is chosen. -/
theorem own_chosen (A : Args) (T : Fin 2048) (h : Fin 4) : A.chosen T h ⟨T.val / 64, by omega⟩ := by
  choose b hb h0 h1 using base_real A T h
  refine among_best (A.sel T h) (by decide) (by decide) (z := 0) fun a hne ha => ?_
  have hv : (a.val = T.val / 64) = False := eq_false fun e => hne (Fin.ext e)
  have hz : (a.val = 0) = False := eq_false fun e => ha (Fin.ext e)
  unfold Args.sel
  rw [hb, hb]
  simp only [hv, hz]
  exact forced_gt (b a) _ (h1 a) (h0 _) _

variable (m : (ℓ : Loc nD τ sig) → Buf (Elt Ideal) ℓ) (c : Dev nD) (t : Fin cfg0.N) (r : Fin 2048)

/-- The blocks' scores of the point. -/
def selAt : Wt := selW (grid0.coords t) (iblk m c 0 t) (iblk m c 14 t) (ckAt m c t)

/-- The rounds pick the reference's blocks. -/
theorem picked_chosen (n : Fin 32) : picked (colW (selAt m c t) (rc r)) 16 n
    ↔ (kargs m c).chosen (tok (jOf t) r) (hOf t) n := by
  choose b hb h0 h1 using base_real (kargs m c) (tok (jOf t) r) (hOf t)
  have e : colW (selAt m c t) (rc r) = fun n : Fin 32 => (b n : EReal)
      + if n.val = (tok (jOf t) r).val / 64 ∨ n.val = 0 then Args.big else 0 := by
    funext n
    exact (selW_apply m c t r n).trans (by rw [hb])
  have e' : (kargs m c).sel (tok (jOf t) r) (hOf t) = fun n : Fin 32 => (b n : EReal)
      + Args.big * ((if n.val = (tok (jOf t) r).val / 64 then 1 else 0) + (if n.val = 0 then 1 else 0)) := by
    funext n
    unfold Args.sel
    rw [hb]
  unfold Args.chosen
  rw [e, e', ← order_same b h0 h1]
  refine picked_iff _ (fun a => ?_) (by decide) n
  rw [big_real]
  split_ifs
  · rw [← EReal.coe_add]; exact EReal.bot_lt_coe _
  · rw [add_zero]; exact EReal.bot_lt_coe _

end Cert.Proof
-- ==== Proof.Loops.lean ====
module
public import proofs.«01_k».proof.Proof.Compress

/-!
# The loops over the chunks of keys
-/

@[expose] public section
set_option maxRecDepth 65536
noncomputable section
open Idealize.ShloMosaic Idealize.SL.Sem
namespace Cert.Proof
open Cert.KernelIdeal Cert.KernelIdeal.Gen

/-- The selected branch's loop runs over the chunks before the point's own, -/
theorem trips1 : ∀ i : grid0.Coords, (k0_t1_loop i).trips = (i 1).val := by decide +kernel
/-- its remainder loop not at all, -/
theorem trips2 : ∀ i : grid0.Coords, (k0_t2_loop i).trips = 0 := by decide +kernel
/-- the windowed branch's loop once, if there is such a chunk, -/
theorem trips3 : ∀ i : grid0.Coords, (k0_t3_loop i).trips = if (i 1).val = 0 then 0 else 1 := by decide +kernel
/-- its remainder loop not at all. -/
theorem trips4 : ∀ i : grid0.Coords, (k0_t4_loop i).trips = 0 := by decide +kernel
/-- The chunks that the loops and the last step read, by their first tokens. -/
theorem off1 : ∀ (i : grid0.Coords) (k : Fin (k0_t1_loop i).trips), k0_off1 i k = ![0, 512 * k.val, 0] := by decide +kernel
/-- The blocks' numbers that the selected branch's loop reads. -/
theorem off2 : ∀ (i : grid0.Coords) (k : Fin (k0_t1_loop i).trips), k0_off2 i k = ![512 * k.val, 0] := by decide +kernel
/-- The chunk that the windowed branch's loop reads. -/
theorem off5 : ∀ (i : grid0.Coords) (k : Fin (k0_t3_loop i).trips), k0_off5 i k = ![0, 512 * ((i 1).val - 1), 0] := by
  decide +kernel
/-- The own chunk's keys and values, -/
theorem off7 : ∀ i : grid0.Coords, k0_off7 i = ![0, 512 * (i 1).val, 0] := by decide +kernel
/-- and its blocks' numbers. -/
theorem off8 : ∀ i : grid0.Coords, k0_off8 i = ![512 * (i 1).val, 0] := by decide +kernel
/-- The word of the group. -/
theorem cW_eq : ∀ i : grid0.Coords, cW i = BitVec.ofNat 32 (i 1).val := by decide +kernel
/-- The word of the windowed branch's chunk. -/
theorem iv3 : ∀ (i : grid0.Coords) (k : Fin (k0_t3_loop i).trips),
    Scf.iv (Scalar.maxsi (Scalar.subi (cW i) 1#32) 0#32) 1#32 k = BitVec.ofNat 32 ((i 1).val - 1) := by decide +kernel

section
variable (c : Dev nD) (t : Fin cfg0.N) (x0 : Vec Ideal S1x4x512x128 .f32) (x1 x2 : Vec Ideal S1x2048x128 .bf16)
  (x13 : Vec Ideal S2048x32 .bf16) (p e : Bt) (init : FVec Ideal S1x2048 .f32 × FVec Ideal S128x2048 .f32)

/-- One trip of the selected branch's loop. -/
theorem stSel_succ (k : Fin (k0_t1_loop (grid0.coords t)).trips) :
    stSel c t x0 x1 x2 x13 p e init (k.val + 1)
      = (k0_pay72 (k0_pay6 x0) nnS p e nnB s32 (stSel c t x0 x1 x2 x13 p e init k.val).1
          (View.ld x1 (Rect.unit (s := S1x2048x128) (k0_off1 (grid0.coords t) k) S1x512x128.size (k0_off1_inb (grid0.coords t) k)))
          (View.ld x13 (Rect.unit (s := S2048x32) (k0_off2 (grid0.coords t) k) S512x32.size (k0_off2_inb (grid0.coords t) k))),
        k0_pay73 (k0_pay6 x0) nnS p e nnB s32 (stSel c t x0 x1 x2 x13 p e init k.val).2
          (View.ld x1 (Rect.unit (s := S1x2048x128) (k0_off1 (grid0.coords t) k) S1x512x128.size (k0_off1_inb (grid0.coords t) k)))
          (View.ld x2 (Rect.unit (s := S1x2048x128) (k0_off1 (grid0.coords t) k) S1x512x128.size (k0_off1_inb (grid0.coords t) k)))
          (View.ld x13 (Rect.unit (s := S2048x32) (k0_off2 (grid0.coords t) k) S512x32.size (k0_off2_inb (grid0.coords t) k)))) := by
  unfold stSel
  refine (st_k0_t1_succ ..).trans ?_
  unfold tripR_k0_t1 trip_k0_t1
  dsimp only
  simp only [View.readAt_eq_ld, Memref.IsWhole.read_unread]

/-- One trip of the windowed branch's loop. -/
theorem stWin_succ (k : Fin (k0_t3_loop (grid0.coords t)).trips) :
    stWin c t x0 x1 x2 p e init (k.val + 1)
      = (k0_pay78 (grid0.coords t) (k0_pay6 x0) (k0_pay7 (grid0.coords t)) jjS (Scalar.subi (cW (grid0.coords t)) 1#32) 0#32 k
          (stWin c t x0 x1 x2 p e init k.val).1
          (View.ld x1 (Rect.unit (s := S1x2048x128) (k0_off5 (grid0.coords t) k) S1x512x128.size (k0_off5_inb (grid0.coords t) k))),
        k0_pay79 (grid0.coords t) (k0_pay6 x0) (k0_pay7 (grid0.coords t)) jjS (Scalar.subi (cW (grid0.coords t)) 1#32) 0#32 k
          (stWin c t x0 x1 x2 p e init k.val).2
          (View.ld x1 (Rect.unit (s := S1x2048x128) (k0_off5 (grid0.coords t) k) S1x512x128.size (k0_off5_inb (grid0.coords t) k)))
          (View.ld x2 (Rect.unit (s := S1x2048x128) (k0_off5 (grid0.coords t) k) S1x512x128.size (k0_off5_inb (grid0.coords t) k)))) := by
  unfold stWin
  refine (st_k0_t3_succ ..).trans ?_
  unfold tripR_k0_t3 trip_k0_t3
  dsimp only
  simp only [View.readAt_eq_ld, Memref.IsWhole.read_unread]

/-- The selected branch's second loop has no trips, -/
theorem sumSel_eq : sumSel c t x0 x1 x2 x13 p e = stSel c t x0 x1 x2 x13 p e (k0_pay69, k0_pay70) (jOf t).val := by
  unfold sumSel
  rw [trips2, trips1, coords_group]
  rfl

/-- nor has the windowed branch's, whose first has one or none. -/
theorem sumWin_eq : sumWin c t x0 x1 x2 p e
    = stWin c t x0 x1 x2 p e (k0_pay69, k0_pay70) (if (jOf t).val = 0 then 0 else 1) := by
  unfold sumWin
  rw [trips4, trips3, coords_group]
  rfl

end

/-! ## A chunk of a block -/

section
variable (x1 : Vec Ideal S1x2048x128 .bf16) (x13 : Vec Ideal S2048x32 .bf16) (a : ℕ) (ha : a + 512 ≤ 2048)

/-- A chunk of keys or values at an index, -/
theorem chunk3 (off) (h : off = ![0, a, 0]) (inb) (j : Fin 512) (d : Fin 128) :
    (View.ld x1 (Rect.unit (s := S1x2048x128) off S1x512x128.size inb)) (ix3 0 j d) = x1 (ix3 0 ⟨a + j.val, by omega⟩ d) := by
  subst h
  unfold View.ld
  refine congrArg x1 ?_
  funext b
  apply Fin.ext
  fin_cases b <;> simp [Rect.unit, ix3]

/-- and of the blocks' numbers. -/
theorem chunk2 (off) (h : off = ![a, 0]) (inb) (j : Fin 512) (n : Fin 32) :
    (View.ld x13 (Rect.unit (s := S2048x32) off S512x32.size inb)) (ix2 j n) = x13 (ix2 ⟨a + j.val, by omega⟩ n) := by
  subst h
  unfold View.ld
  refine congrArg x13 ?_
  funext b
  apply Fin.ext
  fin_cases b <;> simp [Rect.unit, ix2]

end

/-! ## Sums by chunks -/

/-- A sum over the numbers below a chunk's end is the sum below its start and the sum over the chunk. -/
theorem sum_chunk (F : Fin 2048 → EReal) (a : ℕ) (ha : a + 512 ≤ 2048) :
    (∑ s, if s.val < a + 512 then F s else 0)
      = (∑ s, if s.val < a then F s else 0) + ∑ j : Fin 512, F ⟨a + j.val, by omega⟩ := by
  rw [← sum_stretch a 512 ha, ← Finset.sum_add_distrib]
  refine Finset.sum_congr rfl fun s _ => ?_
  by_cases h : s.val < a
  · rw [if_pos h, if_pos (by omega), if_neg (by omega), add_zero]
  · by_cases h' : s.val < a + 512
    · rw [if_pos h', if_neg h, if_pos ⟨by omega, h'⟩, zero_add]
    · rw [if_neg h', if_neg h, if_neg (by omega), add_zero]

/-- A sum whose terms end with a chunk. -/
theorem sum_upto (F : Fin 2048 → EReal) (a : ℕ) (ha : a + 512 ≤ 2048) (h : ∀ s : Fin 2048, a + 512 ≤ s.val → F s = 0) :
    ∑ s, F s = (∑ s, if s.val < a then F s else 0) + ∑ j : Fin 512, F ⟨a + j.val, by omega⟩ := by
  rw [← sum_chunk F a ha]
  refine Finset.sum_congr rfl fun s _ => ?_
  by_cases hs : s.val < a + 512
  · rw [if_pos hs]
  · rw [if_neg hs, h s (by omega)]

/-- A sum whose terms before `a` are zero. -/
theorem sum_below_zero (F : Fin 2048 → EReal) (a : ℕ) (h : ∀ s : Fin 2048, s.val < a → F s = 0) :
    (∑ s, if s.val < a then F s else 0) = 0 := by
  refine Finset.sum_eq_zero fun s _ => ?_
  by_cases hs : s.val < a
  · rw [if_pos hs, h s hs]
  · rw [if_neg hs]

end Cert.Proof
-- ==== Proof.Attend.lean ====
module
public import proofs.«01_k».proof.Proof.Order
public import proofs.«01_k».proof.Proof.Loops
public import proofs.«01_k».proof.Proof.Softmax

/-!
# The selected and the windowed branch of a point
-/

@[expose] public section
set_option maxRecDepth 65536
noncomputable section
open Idealize.ShloMosaic Idealize.SL.Sem
namespace Cert.Proof
open Cert.KernelIdeal Cert.KernelIdeal.Gen
open Classical

/-! ## The exponentials -/

/-- Two to a real power. -/
theorem exp2_coe (x : ℝ) : Ideal.exp2 (x : EReal) = ((2 ^ x : ℝ) : EReal) := rfl

/-- The scale of the base-two exponentials. -/
theorem named_s2 : Named.named (F := Ideal) Cert.KernelIdeal.κ "s2" (φ := .f32) 0x3E0293EE#32
    = (((Real.sqrt 128)⁻¹ * (Real.log 2)⁻¹ : ℝ) : EReal) :=
  IdealRules.named_const.ideal_named_scalar _ _ _ _ rfl

/-- The power of two of a product, scaled and masked, is the exponential of its score where the mask keeps it. -/
theorem exp2_masked (x : EReal) (b : Prop) [Decidable b] :
    Ideal.exp2 (x * Named.named (F := Ideal) Cert.KernelIdeal.κ "s2" (φ := .f32) 1040356334#32 + if b then 0 else ⊥)
      = if b then Ideal.exp (x * root) else 0 := by
  have h2 : Real.log 2 ≠ 0 := (Real.log_pos (by norm_num)).ne'
  have h1 : 0 < (Real.sqrt 128)⁻¹ := inv_pos.mpr (Real.sqrt_pos.mpr (by norm_num))
  have h3 : 0 < (Real.sqrt 128)⁻¹ * (Real.log 2)⁻¹ := mul_pos h1 (inv_pos.mpr (Real.log_pos (by norm_num)))
  rw [named_s2, root]
  by_cases h : b
  · rw [if_pos h, if_pos h, add_zero]
    induction x with
    | bot => rw [EReal.bot_mul_coe_of_pos h3, EReal.bot_mul_coe_of_pos h1]; rfl
    | coe p =>
      rw [← EReal.coe_mul, ← EReal.coe_mul, exp2_coe, exp_coe, Real.rpow_def_of_pos (by norm_num)]
      congr 2
      field_simp
    | top => rw [EReal.top_mul_coe_of_pos h3, EReal.top_mul_coe_of_pos h1]; rfl
  · rw [if_neg h, if_neg h, EReal.add_bot, exp2_bot]

/-! ## The operations at an index -/

section
variable (q2 : FVec Ideal S2048x128 .bf16) (p e : Bt) (bb : FVec Ideal S32x2048 .bf16) (v26 : IVec S1x2048 32) (cw : BitVec 32)
  (l1 l2 : Vec Ideal S1x512x128 .bf16) (l13 : Vec Ideal S512x32 .bf16) (j : Fin 512) (r : Fin 2048) (d : Fin 128)
  (a1 : FVec Ideal S1x2048 .f32) (a2 : FVec Ideal S128x2048 .f32) (i : grid0.Coords) (k : Fin (k0_t3_loop i).trips)

/-- An exponential of the selected branch, in a chunk before the point's own. -/
theorem pay71_apply : k0_pay71 q2 nnS p e nnB s32 l1 l13 (ix2 j r)
    = Ideal.exp2 ((∑ x, l1 (ix3 0 j x) * q2 (ix2 r x)) * Named.named (F := Ideal) κ "s2" (φ := .f32) 1040356334#32
        + ∑ n, l13 (ix2 j n) * addB p e (ix2 n r)) := by
  unfold k0_pay71 addB
  generalize k0_pay68 (F := Ideal) nnS p e nnB s32 = z
  pointwise []
  rfl

/-- The selected branch's sum of exponentials after one more chunk, -/
theorem pay72_apply : k0_pay72 q2 nnS p e nnB s32 a1 l1 l13 (ix2 0 r)
    = a1 (ix2 0 r) + ∑ x, k0_pay71 q2 nnS p e nnB s32 l1 l13 (ix2 x r) := by
  pointwise [k0_pay72]

/-- and its weighted sum of values. -/
theorem pay73_apply : k0_pay73 q2 nnS p e nnB s32 a2 l1 l2 l13 (ix2 d r)
    = a2 (ix2 d r) + ∑ x, l2 (ix3 0 x d) * k0_pay71 q2 nnS p e nnB s32 l1 l13 (ix2 x r) := by
  pointwise [k0_pay73]

/-- An exponential of the windowed branch, in the chunk before the point's own. -/
theorem pay77_apply : k0_pay77 i q2 v26 jjS cw 0#32 k l1 (ix2 j r)
    = Ideal.exp2 ((∑ x, l1 (ix3 0 j x) * q2 (ix2 r x)) * Named.named (F := Ideal) κ "s2" (φ := .f32) 1040356334#32 +
        Scalar.select
          (IntOp.cmpi CmpIPredicate.sgt
            (IntOp.addi (Scalar.muli (512#32) (Scf.iv (Scalar.maxsi cw 0#32) 1#32 k.val)) (BitVec.ofNat 32 j.val))
            (IntOp.subi (v26 (ix2 0 r)) 512#32))
          0 (Named.named (F := Ideal) κ "mask" (φ := .f32) 4048155338#32)) := by
  pointwise [k0_pay77, jjS]
  rfl

/-- The windowed branch's sum of exponentials after that chunk, -/
theorem pay78_apply : k0_pay78 i q2 v26 jjS cw 0#32 k a1 l1 (ix2 0 r)
    = a1 (ix2 0 r) + ∑ x, k0_pay77 i q2 v26 jjS cw (0#32) k l1 (ix2 x r) := by
  pointwise [k0_pay78]

/-- and its weighted sum of values. -/
theorem pay79_apply : k0_pay79 i q2 v26 jjS cw 0#32 k a2 l1 l2 (ix2 d r)
    = a2 (ix2 d r) + ∑ x, l2 (ix3 0 x d) * k0_pay77 i q2 v26 jjS cw (0#32) k l1 (ix2 x r) := by
  pointwise [k0_pay79]

/-- An exponential of the point's own chunk, under the causal mask, -/
theorem pay84_apply : k0_pay84 q2 v26 cw jjS l1 (ix2 j r)
    = Ideal.exp2 ((∑ x, l1 (ix3 0 j x) * q2 (ix2 r x)) * Named.named (F := Ideal) κ "s2" (φ := .f32) 1040356334#32 +
        Scalar.select
          (IntOp.cmpi CmpIPredicate.sle (IntOp.addi (Scalar.muli (512#32) cw) (BitVec.ofNat 32 j.val)) (v26 (ix2 0 r))) 0
          (Named.named (F := Ideal) κ "mask" (φ := .f32) 4048155338#32)) := by
  pointwise [k0_pay84, jjS]
  rfl

/-- the same where its block is chosen, zero elsewhere, -/
theorem pay85_apply : k0_pay85 q2 v26 bb cw jjS l1 l13 (ix2 j r)
    = if ∑ x, l13 (ix2 j x) * bb (ix2 x r) < Ideal.ofBits FTy.f32 3212836864#32 then 0
      else k0_pay84 q2 v26 cw jjS l1 (ix2 j r) := by
  pointwise [k0_pay85]

/-- and the sum of those. -/
theorem pay86_apply : k0_pay86 q2 v26 bb cw jjS l1 l13 (ix1 r) = ∑ x, k0_pay85 q2 v26 bb cw jjS l1 l13 (ix2 x r) := by
  pointwise [k0_pay86]

/-- A chunk of values is read as a matrix. -/
theorem pay83_apply : k0_pay83 l1 (ix2 j d) = l1 (ix3 0 j d) := by
  pointwise [k0_pay83]

/-- The sums of exponentials start from zero, -/
theorem pay69_apply : k0_pay69 (F := Ideal) (ix2 0 r) = 0 := by
  pointwise [k0_pay69]

/-- and so do the sums of values. -/
theorem pay70_apply : k0_pay70 (F := Ideal) (ix2 d r) = 0 := by
  pointwise [k0_pay70]

/-- The blocks' numbers of a chunk pick what a block adds. -/
theorem pick_block (b : Fin 32 → EReal) (s : Fin 2048) (l : Fin 32 → EReal)
    (hl : ∀ n, l n = if s.val / 64 = n.val then 1 else 0) : ∑ n, l n * b n = b ⟨s.val / 64, by omega⟩ := by
  rw [Finset.sum_eq_single (⟨s.val / 64, by omega⟩ : Fin 32)]
  · rw [hl, if_pos rfl, one_mul]
  · intro n _ hn
    rw [hl, if_neg (fun h => hn (Fin.ext h.symm)), zero_mul]
  · simp

/-- The literal minus one, as a real. -/
theorem minus_one : Ideal.ofBits FTy.f32 3212836864#32 = ((-1 : ℝ) : EReal) := by
  simp [Ideal.ofBits, Ideal.ieee, -EReal.coe_mul]
  try norm_num

end

/-! ## The sums of a point -/

variable (m : (ℓ : Loc nD τ sig) → Buf (Elt Ideal) ℓ) (c : Dev nD) (t : Fin cfg0.N) (r : Fin 2048)

/-- No query's product with its own token's key is below -512. -/
def Moderate (A : Args) : Prop := ∀ t g, ((-512 : ℝ) : EReal) ≤ A.prod t g t

/-- The term of the selected branch, -/
def selTerm (s : Fin 2048) : EReal :=
  if (kargs m c).selMask (tok (jOf t) r) (hOf t) s then
    Ideal.exp ((kargs m c).score (tok (jOf t) r) (hd (hOf t) r) s) else 0

/-- and of the windowed one. -/
def winTerm (s : Fin 2048) : EReal :=
  if Args.winMask (tok (jOf t) r) s then Ideal.exp ((kargs m c).score (tok (jOf t) r) (hd (hOf t) r) s) else 0

/-- The rounds' result, -/
def pAt : Bt := pV (selAt m c t) 15
/-- and the last round's candidates. -/
def eAt : Bt := eqV (wV (selAt m c t) 15)

/-- A block adds zero where it is chosen and minus infinity elsewhere. -/
theorem addB_chosen (n : Fin 32) : addB (pAt m c t) (eAt m c t) (ix2 n r)
    = if (kargs m c).chosen (tok (jOf t) r) (hOf t) n then 0 else ⊥ := by
  unfold pAt eAt
  rw [addB_apply]
  by_cases h : (kargs m c).chosen (tok (jOf t) r) (hOf t) n
  · rw [if_pos h, if_pos ((picked_chosen m c t r n).mpr h)]
  · rw [if_neg h, if_neg (fun h' => h ((picked_chosen m c t r n).mp h'))]

/-- The product of a key of a chunk with a query, in the reference's words. -/
theorem prod_apply (l1 : Vec Ideal S1x512x128 .bf16) (j : Fin 512) (s : Fin 2048)
    (h : ∀ d, l1 (ix3 0 j d) = iblk m c 1 t (ix3 0 s d)) :
    (∑ x, l1 (ix3 0 j x) * k0_pay6 (iblk m c 0 t) (ix2 r x)) = (kargs m c).prod (tok (jOf t) r) (hd (hOf t) r) s := by
  unfold Args.prod
  refine Finset.sum_congr rfl fun x _ => ?_
  rw [h, in1, q2_apply, kv_hd, mul_comm]

/-- The tokens of a point's queries. -/
theorem tok_bounds : 512 * (jOf t).val ≤ (tok (jOf t) r).val ∧ (tok (jOf t) r).val < 512 * (jOf t).val + 512 := by
  simp only [tok]
  omega

/-- A key of an earlier chunk in the selected branch. -/
theorem earlier_term (l1 : Vec Ideal S1x512x128 .bf16) (l13 : Vec Ideal S512x32 .bf16) (j : Fin 512) (s : Fin 2048)
    (hs : s.val < 512 * (jOf t).val) (h : ∀ d, l1 (ix3 0 j d) = iblk m c 1 t (ix3 0 s d))
    (h' : ∀ n, l13 (ix2 j n) = iblk m c 13 t (ix2 s n)) :
    k0_pay71 (k0_pay6 (iblk m c 0 t)) nnS (pAt m c t) (eAt m c t) nnB s32 l1 l13 (ix2 j r) = selTerm m c t r s := by
  have hb := tok_bounds t r
  rw [pay71_apply, prod_apply m c t r l1 j s h,
    pick_block (fun n => addB (pAt m c t) (eAt m c t) (ix2 n r)) s (fun n => l13 (ix2 j n))
      (fun n => (h' n).trans (in13 m c t s n)), addB_chosen, exp2_masked]
  unfold selTerm Args.selMask Args.score
  have : s.val ≤ (tok (jOf t) r).val := by omega
  simp only [this, and_true]

/-- The sums after the first chunks. -/
theorem stSel_apply (k : ℕ) (hk : k ≤ (jOf t).val) :
    (stSel c t (iblk m c 0 t) (iblk m c 1 t) (iblk m c 2 t) (iblk m c 13 t) (pAt m c t) (eAt m c t)
        (k0_pay69, k0_pay70) k).1 (ix2 0 r) = (∑ s, if s.val < 512 * k then selTerm m c t r s else 0)
    ∧ ∀ d, (stSel c t (iblk m c 0 t) (iblk m c 1 t) (iblk m c 2 t) (iblk m c 13 t) (pAt m c t) (eAt m c t)
        (k0_pay69, k0_pay70) k).2 (ix2 d r)
      = (∑ s, if s.val < 512 * k then (kargs m c).v s (hOf t) d * selTerm m c t r s else 0) := by
  induction k with
  | zero => exact ⟨(pay69_apply r).trans (by simp), fun d => (pay70_apply r d).trans (by simp)⟩
  | succ k ih =>
    obtain ⟨i1, i2⟩ := ih (by omega)
    have hj := (jOf t).isLt
    have hk' : k < (k0_t1_loop (grid0.coords t)).trips := by rw [trips1, coords_group]; omega
    have e := stSel_succ c t (iblk m c 0 t) (iblk m c 1 t) (iblk m c 2 t) (iblk m c 13 t) (pAt m c t) (eAt m c t)
      (k0_pay69, k0_pay70) ⟨k, hk'⟩
    have key : ∀ j : Fin 512, k0_pay71 (k0_pay6 (iblk m c 0 t)) nnS (pAt m c t) (eAt m c t) nnB s32
        (View.ld (iblk m c 1 t) (Rect.unit (s := S1x2048x128) (k0_off1 (grid0.coords t) ⟨k, hk'⟩) S1x512x128.size (k0_off1_inb (grid0.coords t) ⟨k, hk'⟩)))
        (View.ld (iblk m c 13 t) (Rect.unit (s := S2048x32) (k0_off2 (grid0.coords t) ⟨k, hk'⟩) S512x32.size (k0_off2_inb (grid0.coords t) ⟨k, hk'⟩))) (ix2 j r)
        = selTerm m c t r ⟨512 * k + j.val, by omega⟩ := fun j =>
      earlier_term m c t r _ _ j ⟨512 * k + j.val, by omega⟩ (by dsimp only; omega)
        (fun d => chunk3 _ (512 * k) (by omega) _ (off1 _ _) _ j d)
        (fun n => chunk2 _ (512 * k) (by omega) _ (off2 _ _) _ j n)
    refine ⟨(congrArg (fun z => z.1 (ix2 0 r)) e).trans ((pay72_apply ..).trans ?_),
      fun d => (congrArg (fun z => z.2 (ix2 d r)) e).trans ((pay73_apply ..).trans ?_)⟩
    · exact (congrArg₂ (· + ·) i1 (Finset.sum_congr rfl fun j _ => key j)).trans
        (sum_chunk (selTerm m c t r) (512 * k) (by omega)).symm
    · refine (congrArg₂ (· + ·) (i2 d) (Finset.sum_congr rfl fun j _ => ?_)).trans
        (sum_chunk (fun s => (kargs m c).v s (hOf t) d * selTerm m c t r s) (512 * k) (by omega)).symm
      exact congrArg₂ (· * ·) ((chunk3 _ (512 * k) (by omega) _ (off1 _ _) _ j d).trans (in2 m c t _ d)) (key j)

/-- The word of a chunk's token. -/
theorem token_word (a j : ℕ) : IntOp.addi (Scalar.muli (512#32) (BitVec.ofNat 32 a)) (BitVec.ofNat 32 j)
    = BitVec.ofNat 32 (512 * a + j) := by
  rw [BitVec.ofNat_add, BitVec.ofNat_mul]
  rfl

/-- A key of the point's own chunk in the windowed branch, -/
theorem own_win (l1 : Vec Ideal S1x512x128 .bf16) (j : Fin 512) (s : Fin 2048)
    (hs : s.val = 512 * (jOf t).val + j.val) (h : ∀ d, l1 (ix3 0 j d) = iblk m c 1 t (ix3 0 s d)) :
    k0_pay84 (k0_pay6 (iblk m c 0 t)) (k0_pay7 (grid0.coords t)) (cW (grid0.coords t)) jjS l1 (ix2 j r) = winTerm m c t r s := by
  have hb := tok_bounds t r
  have hj := (jOf t).isLt
  rw [pay84_apply, prod_apply m c t r l1 j s h, cW_eq, coords_group, token_word, tval_apply, ← hs,
    WordCmp.cmpi_sle_ofNat (by omega) (by omega), WordCmp.select_decide, named_mask, exp2_masked]
  unfold winTerm Args.winMask Args.score
  have : (tok (jOf t) r).val < s.val + 512 := by omega
  simp only [this, true_and]

/-- of the chunk before it, -/
theorem before_win (k : Fin (k0_t3_loop (grid0.coords t)).trips) (l1 : Vec Ideal S1x512x128 .bf16) (j : Fin 512) (s : Fin 2048)
    (hs : s.val = 512 * ((jOf t).val - 1) + j.val) (hlt : s.val < 512 * (jOf t).val)
    (h : ∀ d, l1 (ix3 0 j d) = iblk m c 1 t (ix3 0 s d)) :
    k0_pay77 (grid0.coords t) (k0_pay6 (iblk m c 0 t)) (k0_pay7 (grid0.coords t)) jjS
      (Scalar.subi (cW (grid0.coords t)) 1#32) 0#32 k l1 (ix2 j r) = winTerm m c t r s := by
  have hb := tok_bounds t r
  have hj := (jOf t).isLt
  rw [pay77_apply, prod_apply m c t r l1 j s h, iv3, coords_group, token_word, tval_apply, ← hs,
    sgt_sub (b := 512) (by omega) (by omega) (by omega), WordCmp.select_decide, named_mask, exp2_masked]
  unfold winTerm Args.winMask Args.score
  have : s.val ≤ (tok (jOf t) r).val := by omega
  simp only [this, and_true]

/-- and of the point's own chunk in the selected branch. -/
theorem own_sel (l1 : Vec Ideal S1x512x128 .bf16) (l13 : Vec Ideal S512x32 .bf16) (j : Fin 512) (s : Fin 2048)
    (hs : s.val = 512 * (jOf t).val + j.val) (h : ∀ d, l1 (ix3 0 j d) = iblk m c 1 t (ix3 0 s d))
    (h' : ∀ n, l13 (ix2 j n) = iblk m c 13 t (ix2 s n)) :
    k0_pay85 (k0_pay6 (iblk m c 0 t)) (k0_pay7 (grid0.coords t)) (addB (pAt m c t) (eAt m c t)) (cW (grid0.coords t)) jjS
      l1 l13 (ix2 j r) = selTerm m c t r s := by
  have hb := tok_bounds t r
  rw [pay85_apply, own_win m c t r l1 j s hs h,
    pick_block (fun n => addB (pAt m c t) (eAt m c t) (ix2 n r)) s (fun n => l13 (ix2 j n))
      (fun n => (h' n).trans (in13 m c t s n)), addB_chosen, minus_one]
  unfold selTerm winTerm Args.selMask Args.winMask
  have h1 : (tok (jOf t) r).val < s.val + 512 := by omega
  have h0 : ¬ ((0 : EReal) < ((-1 : ℝ) : EReal)) := by
    rw [show (0 : EReal) = ((0 : ℝ) : EReal) from rfl, EReal.coe_lt_coe_iff]
    norm_num
  by_cases hc : (kargs m c).chosen (tok (jOf t) r) (hOf t) ⟨s.val / 64, by omega⟩
  · simp only [hc, h1, if_true, true_and, if_neg h0]
  · simp only [hc, if_false, false_and, if_pos (EReal.bot_lt_coe (-1))]

/-- The keys that the point's own chunk of a block holds. -/
abbrev own3 (x : Vec Ideal S1x2048x128 .bf16) : Vec Ideal S1x512x128 .bf16 :=
  View.ld x (Rect.unit (s := S1x2048x128) (k0_off7 (grid0.coords t)) S1x512x128.size (k0_off7_inb (grid0.coords t)))

/-- The blocks' numbers that the point's own chunk holds. -/
abbrev own2 (x : Vec Ideal S2048x32 .bf16) : Vec Ideal S512x32 .bf16 :=
  View.ld x (Rect.unit (s := S2048x32) (k0_off8 (grid0.coords t)) S512x32.size (k0_off8_inb (grid0.coords t)))

/-- The own chunk at an index, for the keys and values, -/
theorem own3_apply (x : Vec Ideal S1x2048x128 .bf16) (j : Fin 512) (d : Fin 128) :
    own3 t x (ix3 0 j d) = x (ix3 0 ⟨512 * (jOf t).val + j.val, by omega⟩ d) :=
  chunk3 x (512 * (jOf t).val) (by omega) _ (by rw [off7, coords_group]) _ j d

/-- and for the blocks' numbers. -/
theorem own2_apply (x : Vec Ideal S2048x32 .bf16) (j : Fin 512) (n : Fin 32) :
    own2 t x (ix2 j n) = x (ix2 ⟨512 * (jOf t).val + j.val, by omega⟩ n) :=
  chunk2 x (512 * (jOf t).val) (by omega) _ (by rw [off8, coords_group]) _ j n

/-- An exponential of the own chunk in the selected branch, -/
theorem own_sel' (j : Fin 512) :
    k0_pay85 (k0_pay6 (iblk m c 0 t)) (k0_pay7 (grid0.coords t)) (addB (pAt m c t) (eAt m c t)) (cW (grid0.coords t)) jjS
      (own3 t (iblk m c 1 t)) (own2 t (iblk m c 13 t)) (ix2 j r)
      = selTerm m c t r ⟨512 * (jOf t).val + j.val, by omega⟩ :=
  own_sel m c t r _ _ j ⟨512 * (jOf t).val + j.val, by omega⟩ rfl (own3_apply t _ j) (own2_apply t _ j)

/-- and in the windowed branch. -/
theorem own_win' (j : Fin 512) :
    k0_pay84 (k0_pay6 (iblk m c 0 t)) (k0_pay7 (grid0.coords t)) (cW (grid0.coords t)) jjS (own3 t (iblk m c 1 t)) (ix2 j r)
      = winTerm m c t r ⟨512 * (jOf t).val + j.val, by omega⟩ :=
  own_win m c t r _ j ⟨512 * (jOf t).val + j.val, by omega⟩ rfl (own3_apply t _ j)

/-- No key after the own chunk counts in the selected branch, -/
theorem selTerm_after (s : Fin 2048) (h : 512 * (jOf t).val + 512 ≤ s.val) : selTerm m c t r s = 0 := by
  have hb := tok_bounds t r
  unfold selTerm
  rw [if_neg (fun e => by have := e.2; omega)]

/-- nor in the windowed one, -/
theorem winTerm_after (s : Fin 2048) (h : 512 * (jOf t).val + 512 ≤ s.val) : winTerm m c t r s = 0 := by
  have hb := tok_bounds t r
  unfold winTerm
  rw [if_neg (fun e => by have := e.2; omega)]

/-- where no key before the last two chunks counts either. -/
theorem winTerm_before (s : Fin 2048) (h : s.val < 512 * ((jOf t).val - 1)) : winTerm m c t r s = 0 := by
  have hb := tok_bounds t r
  unfold winTerm
  rw [if_neg (fun e => by have := e.1; omega)]

/-- The selected branch's sum of exponentials, -/
theorem sel_den : (sumSel c t (iblk m c 0 t) (iblk m c 1 t) (iblk m c 2 t) (iblk m c 13 t) (pAt m c t) (eAt m c t)).1 (ix2 0 r)
    + k0_pay86 (k0_pay6 (iblk m c 0 t)) (k0_pay7 (grid0.coords t)) (addB (pAt m c t) (eAt m c t)) (cW (grid0.coords t)) jjS
        (own3 t (iblk m c 1 t)) (own2 t (iblk m c 13 t)) (ix1 r) = ∑ s, selTerm m c t r s := by
  rw [sumSel_eq, (stSel_apply m c t r _ le_rfl).1, pay86_apply,
    sum_upto (selTerm m c t r) (512 * (jOf t).val) (by omega) (selTerm_after m c t r)]
  exact congrArg (_ + ·) (Finset.sum_congr rfl fun j _ => own_sel' m c t r j)

/-- and its weighted sum of values. -/
theorem sel_num (d : Fin 128) :
    (sumSel c t (iblk m c 0 t) (iblk m c 1 t) (iblk m c 2 t) (iblk m c 13 t) (pAt m c t) (eAt m c t)).2 (ix2 d r)
    + ∑ x, k0_pay83 (own3 t (iblk m c 2 t)) (ix2 x d) *
      k0_pay85 (k0_pay6 (iblk m c 0 t)) (k0_pay7 (grid0.coords t)) (addB (pAt m c t) (eAt m c t)) (cW (grid0.coords t)) jjS
        (own3 t (iblk m c 1 t)) (own2 t (iblk m c 13 t)) (ix2 x r) = ∑ s, (kargs m c).v s (hOf t) d * selTerm m c t r s := by
  rw [sumSel_eq, (stSel_apply m c t r _ le_rfl).2,
    sum_upto (fun s => (kargs m c).v s (hOf t) d * selTerm m c t r s) (512 * (jOf t).val) (by omega)
      (fun s h => by rw [selTerm_after m c t r s h, mul_zero])]
  refine congrArg (_ + ·) (Finset.sum_congr rfl fun j _ => congrArg₂ (· * ·) ?_ (own_sel' m c t r j))
  rw [pay83_apply, own3_apply, in2]

/-- The windowed branch's sums over the chunk before the point's own. -/
theorem stWin_apply :
    (sumWin c t (iblk m c 0 t) (iblk m c 1 t) (iblk m c 2 t) (pAt m c t) (eAt m c t)).1 (ix2 0 r)
      = (∑ s, if s.val < 512 * (jOf t).val then winTerm m c t r s else 0)
    ∧ ∀ d, (sumWin c t (iblk m c 0 t) (iblk m c 1 t) (iblk m c 2 t) (pAt m c t) (eAt m c t)).2 (ix2 d r)
      = (∑ s, if s.val < 512 * (jOf t).val then (kargs m c).v s (hOf t) d * winTerm m c t r s else 0) := by
  rw [sumWin_eq]
  have hj := (jOf t).isLt
  by_cases h0 : (jOf t).val = 0
  · rw [if_pos h0, h0]
    exact ⟨(pay69_apply r).trans (by simp), fun d => (pay70_apply r d).trans (by simp)⟩
  · rw [if_neg h0]
    have hk' : 0 < (k0_t3_loop (grid0.coords t)).trips := by rw [trips3, coords_group, if_neg h0]; omega
    have e := stWin_succ c t (iblk m c 0 t) (iblk m c 1 t) (iblk m c 2 t) (pAt m c t) (eAt m c t)
      (k0_pay69, k0_pay70) ⟨0, hk'⟩
    have ho : k0_off5 (grid0.coords t) ⟨0, hk'⟩ = ![0, 512 * ((jOf t).val - 1), 0] := by rw [off5, coords_group]
    have key : ∀ j : Fin 512, k0_pay77 (grid0.coords t) (k0_pay6 (iblk m c 0 t)) (k0_pay7 (grid0.coords t)) jjS
        (Scalar.subi (cW (grid0.coords t)) 1#32) 0#32 ⟨0, hk'⟩
        (View.ld (iblk m c 1 t) (Rect.unit (s := S1x2048x128) (k0_off5 (grid0.coords t) ⟨0, hk'⟩) S1x512x128.size (k0_off5_inb (grid0.coords t) ⟨0, hk'⟩)))
        (ix2 j r) = winTerm m c t r ⟨512 * ((jOf t).val - 1) + j.val, by omega⟩ := fun j =>
      before_win m c t r _ _ j ⟨512 * ((jOf t).val - 1) + j.val, by omega⟩ rfl (by dsimp only; omega)
        (fun d => chunk3 _ (512 * ((jOf t).val - 1)) (by omega) _ ho _ j d)
    have hl : 512 * (jOf t).val = 512 * ((jOf t).val - 1) + 512 := by omega
    refine ⟨(congrArg (fun z => z.1 (ix2 0 r)) e).trans ((pay78_apply ..).trans ?_),
      fun d => (congrArg (fun z => z.2 (ix2 d r)) e).trans ((pay79_apply ..).trans ?_)⟩
    · refine (congrArg₂ (· + ·) (pay69_apply r) (Finset.sum_congr rfl fun j _ => key j)).trans ?_
      rw [hl, sum_chunk _ _ (by omega), sum_below_zero _ _ (winTerm_before m c t r)]
    · refine (congrArg₂ (· + ·) (pay70_apply r d) (Finset.sum_congr rfl fun j _ =>
        congrArg₂ (· * ·) ((chunk3 _ (512 * ((jOf t).val - 1)) (by omega) _ ho _ j d).trans (in2 m c t _ d)) (key j))).trans ?_
      rw [hl, sum_chunk (fun s => (kargs m c).v s (hOf t) d * winTerm m c t r s) _ (by omega),
        sum_below_zero _ _ (fun s h => by rw [winTerm_before m c t r s h, mul_zero])]

/-- The windowed branch's sum of exponentials, -/
theorem win_den : (sumWin c t (iblk m c 0 t) (iblk m c 1 t) (iblk m c 2 t) (pAt m c t) (eAt m c t)).1 (ix2 0 r)
    + ∑ x, k0_pay84 (k0_pay6 (iblk m c 0 t)) (k0_pay7 (grid0.coords t)) (cW (grid0.coords t)) jjS (own3 t (iblk m c 1 t)) (ix2 x r)
      = ∑ s, winTerm m c t r s := by
  rw [(stWin_apply m c t r).1, sum_upto (winTerm m c t r) (512 * (jOf t).val) (by omega) (winTerm_after m c t r)]
  exact congrArg (_ + ·) (Finset.sum_congr rfl fun j _ => own_win' m c t r j)

/-- and its weighted sum of values. -/
theorem win_num (d : Fin 128) :
    (sumWin c t (iblk m c 0 t) (iblk m c 1 t) (iblk m c 2 t) (pAt m c t) (eAt m c t)).2 (ix2 d r)
    + ∑ x, k0_pay83 (own3 t (iblk m c 2 t)) (ix2 x d) *
      k0_pay84 (k0_pay6 (iblk m c 0 t)) (k0_pay7 (grid0.coords t)) (cW (grid0.coords t)) jjS (own3 t (iblk m c 1 t)) (ix2 x r)
      = ∑ s, (kargs m c).v s (hOf t) d * winTerm m c t r s := by
  rw [(stWin_apply m c t r).2,
    sum_upto (fun s => (kargs m c).v s (hOf t) d * winTerm m c t r s) (512 * (jOf t).val) (by omega)
      (fun s h => by rw [winTerm_after m c t r s h, mul_zero])]
  refine congrArg (_ + ·) (Finset.sum_congr rfl fun j _ => congrArg₂ (· * ·) ?_ (own_win' m c t r j))
  rw [pay83_apply, own3_apply, in2]

/-! ## The quotients are the softmaxes -/

/-- The greatest of some scores is one of them. -/
theorem top_attained {n : ℕ} (x : Fin n → EReal) (M : Fin n → Prop) [DecidablePred M] (h : ∃ s, M s) :
    ∃ s, M s ∧ top x M = x s := by
  obtain ⟨s, hs, hm⟩ := Finset.exists_max_image (Finset.univ.filter M) x
    ⟨h.choose, Finset.mem_filter.mpr ⟨Finset.mem_univ _, h.choose_spec⟩⟩
  have hM := (Finset.mem_filter.mp hs).2
  refine ⟨s, hM, le_antisymm ((Finset.fold_max_le _).mpr ⟨bot_le, fun a _ => ?_⟩)
    ((Finset.le_fold_max _).mpr (.inr ⟨s, Finset.mem_univ _, by rw [if_pos hM]⟩))⟩
  by_cases ha : M a
  · rw [if_pos ha]
    exact hm a (Finset.mem_filter.mpr ⟨Finset.mem_univ _, ha⟩)
  · rw [if_neg ha]
    exact bot_le

/-- and none of them is greater. -/
theorem le_top_of {n : ℕ} (x : Fin n → EReal) (M : Fin n → Prop) [DecidablePred M] (s : Fin n) (h : M s) :
    x s ≤ top x M :=
  (Finset.le_fold_max _).mpr (.inr ⟨s, Finset.mem_univ _, by rw [if_pos h]⟩)

variable (hA : Moderate (kargs m c))
include hA

/-- A query's score for its own token's key. -/
theorem own_score (T : Fin 2048) (g : Fin 16) : ((-46 : ℝ) : EReal) ≤ (kargs m c).score T g T := by
  have h1 : (11.2 : ℝ) ≤ Real.sqrt 128 := Real.le_sqrt_of_sq_le (by norm_num)
  have h2 : (Real.sqrt 128)⁻¹ ≤ (11.2 : ℝ)⁻¹ := inv_anti₀ (by norm_num) h1
  have h3 : 0 < (Real.sqrt 128)⁻¹ := inv_pos.mpr (by linarith)
  have h4 : (11.2 : ℝ)⁻¹ * 512 ≤ 46 := by norm_num
  have h := hA T g
  unfold Args.score root
  generalize (kargs m c).prod T g T = y at h
  induction y with
  | bot => exact absurd (le_bot_iff.mp h) (EReal.coe_ne_bot _)
  | coe p =>
    have hp := EReal.coe_le_coe_iff.mp h
    rw [← EReal.coe_mul, EReal.coe_le_coe_iff]
    nlinarith
  | top => rw [EReal.top_mul_coe_of_pos h3]; exact le_top

/-- The selected branch's quotient is its softmax's mean of values, -/
theorem sel_eq (d : Fin 128) : Ideal.div (∑ s, (kargs m c).v s (hOf t) d * selTerm m c t r s) (max (∑ s, selTerm m c t r s) tiny)
    = (kargs m c).outSel (tok (jOf t) r) (hd (hOf t) r) d := by
  have hM : (kargs m c).selMask (tok (jOf t) r) (hOf t) (tok (jOf t) r) := ⟨own_chosen _ _ _, le_rfl⟩
  unfold selTerm Args.outSel sm
  rw [softmax_eq _ _ _ (top _ _) ⟨_, hM, own_score m c hA _ _⟩ (top_attained _ _ ⟨_, hM⟩) (le_top_of _ _)]
  simp only [kv_hd]
  exact Finset.sum_congr rfl fun s _ => mul_comm _ _

/-- and so is the windowed branch's. -/
theorem win_eq (d : Fin 128) : Ideal.div (∑ s, (kargs m c).v s (hOf t) d * winTerm m c t r s) (max (∑ s, winTerm m c t r s) tiny)
    = (kargs m c).outWin (tok (jOf t) r) (hd (hOf t) r) d := by
  have hM : Args.winMask (tok (jOf t) r) (tok (jOf t) r) := ⟨by omega, le_rfl⟩
  unfold winTerm Args.outWin sm
  rw [softmax_eq _ _ _ (top _ _) ⟨_, hM, own_score m c hA _ _⟩ (top_attained _ _ ⟨_, hM⟩) (le_top_of _ _)]
  simp only [kv_hd]
  exact Finset.sum_congr rfl fun s _ => mul_comm _ _

end Cert.Proof
-- ==== Proof.Equation.lean ====
module
public import proofs.«01_k».proof.Proof.Attend
public import proofs.«01_k».proof.Proof.RefOut
public import proofs.«01_k».proof.Defs
public import proofs.«01_k».proof.Proof.Gen.ReferenceIdeal.Run
public import proofs.«01_k».proof.Proof.Gen.KernelIdeal.Value
public import proofs.«01_k».proof.Proof.Gen.Pre_own_scores_moderate

/-!
# What the kernel's array holds
-/

@[expose] public section
set_option maxRecDepth 65536
noncomputable section
open Idealize.ShloMosaic Idealize.SL.Sem
namespace Cert.Proof
open Cert.KernelIdeal Cert.KernelIdeal.Gen

/-- The gated sum of the three branches at an index. -/
theorem pay87_apply (q2 : FVec Ideal S2048x128 .bf16) (o : FVec Ideal S128x2048 .f32) (a1 c1 : FVec Ideal S1x2048 .f32)
    (a2 c2 : FVec Ideal S128x2048 .f32) (vs : FVec Ideal S512x128 .bf16) (e3 e2 : FVec Ideal S512x2048 .f32)
    (es : FVec Ideal S2048 .f32) (gw : Vec Ideal S128x8 .bf16) (d : Fin 128) (r : Fin 2048) :
    k0_pay87 q2 o a1 a2 c1 c2 vs e3 e2 es gw (ix4 0 0 d r)
      = Ideal.logistic (∑ x, gw (ix2 x 0) * q2 (ix2 r x)) * o (ix2 d r)
        + Ideal.logistic (∑ x, gw (ix2 x 1) * q2 (ix2 r x))
          * Ideal.div (a2 (ix2 d r) + ∑ x, vs (ix2 x d) * e2 (ix2 x r)) (max (a1 (ix2 0 r) + es (ix1 r)) tiny)
        + Ideal.logistic (∑ x, gw (ix2 x 2) * q2 (ix2 r x))
          * Ideal.div (c2 (ix2 d r) + ∑ x, vs (ix2 x d) * e3 (ix2 x r)) (max (c1 (ix2 0 r) + ∑ x, e3 (ix2 x r)) tiny) := by
  unfold tiny
  pointwise [k0_pay87]

/-- The same, with the three gates and the two quotients read already. -/
theorem pay87_of (q2 : FVec Ideal S2048x128 .bf16) (o : FVec Ideal S128x2048 .f32) (a1 c1 : FVec Ideal S1x2048 .f32)
    (a2 c2 : FVec Ideal S128x2048 .f32) (vs : FVec Ideal S512x128 .bf16) (e3 e2 : FVec Ideal S512x2048 .f32)
    (es : FVec Ideal S2048 .f32) (gw : Vec Ideal S128x8 .bf16) (d : Fin 128) (r : Fin 2048) (g : Fin 3 → EReal)
    (oc sd sn wd wn : EReal)
    (hg : ∀ i : Fin 3, Ideal.logistic (∑ x, gw (ix2 x ⟨i.val, by omega⟩) * q2 (ix2 r x)) = g i)
    (ho : o (ix2 d r) = oc)
    (hsd : a1 (ix2 0 r) + es (ix1 r) = sd)
    (hsn : a2 (ix2 d r) + ∑ x, vs (ix2 x d) * e2 (ix2 x r) = sn)
    (hwd : c1 (ix2 0 r) + ∑ x, e3 (ix2 x r) = wd)
    (hwn : c2 (ix2 d r) + ∑ x, vs (ix2 x d) * e3 (ix2 x r) = wn) :
    k0_pay87 q2 o a1 a2 c1 c2 vs e3 e2 es gw (ix4 0 0 d r)
      = g 0 * oc + g 1 * Ideal.div sn (max sd tiny) + g 2 * Ideal.div wn (max wd tiny) := by
  rw [pay87_apply, ho, hsd, hsn, hwd, hwn, ← hg 0, ← hg 1, ← hg 2]
  rfl

variable (m : (ℓ : Loc nD τ sig) → Buf (Elt Ideal) ℓ) (c : Dev nD)

/-- A gate, from the entries of the queries and of the gates' weights. -/
theorem gate_of (A : Args) (gw : Vec Ideal S128x8 .bf16) (q2 : FVec Ideal S2048x128 .bf16) (t : Fin 2048) (g : Fin 16)
    (r : Fin 2048) (hq : ∀ x, q2 (ix2 r x) = A.q t g x) (i : Fin 3)
    (hw : ∀ x : Fin 128, gw (ix2 x ⟨i.val, by omega⟩) = A.gw x i) :
    Ideal.logistic (∑ x, gw (ix2 x ⟨i.val, by omega⟩) * q2 (ix2 r x)) = A.gate t g i := by
  unfold Args.gate
  refine congrArg _ (Finset.sum_congr rfl fun x _ => ?_)
  rw [hq, hw, mul_comm]

/-- The block that a point writes is the reference's formula. -/
theorem written_apply (hA : Moderate (kargs m c)) (t : Fin cfg0.N) (d : Fin 128) (r : Fin 2048) :
    written m c t (ckAt m c t) (cvAt m c t) (ix4 0 0 d r) = (kargs m c).out (tok (jOf t) r) (hd (hOf t) r) d := by
  refine (pay87_of _ _ _ _ _ _ _ _ _ _ _ d r _ _ _ _ _ _
    (fun i => gate_of (kargs m c) _ _ _ _ r (q2_apply m c t r) i fun x => in12 m c t x i) (outC_apply m c t r d)
    (sel_den m c t r) (sel_num m c t r d) (win_den m c t r) (win_num m c t r d)).trans ?_
  rw [sel_eq m c t r hA d, win_eq m c t r hA d]
  rfl

/-- The point that writes an index of the array. -/
theorem point_at (h qj : Fin 4) (d : Fin 128) (r : Fin 2048) :
    Cert.KernelIdeal.Value.pt15Of (ix4 h qj d r) = 4 * h.val + qj.val := by
  have e : ∀ a b x y : ℕ, x < 128 → y < 2048 →
      4 * (a / 1 - 0) + 1 * (b / 1 - 0) + 1 * (x / 128 - 0) + 1 * (y / 2048 - 0) = 4 * a + b := by
    intro a b x y hx hy
    omega
  exact e h.val qj.val d.val r.val d.isLt r.isLt

/-- Its place in the block. -/
theorem place_at (h qj : Fin 4) (d : Fin 128) (r : Fin 2048) :
    Cert.KernelIdeal.Value.loc15Of (ix4 h qj d r) = ix4 0 0 d r := by
  funext a
  match a with
  | ⟨0, _⟩ => exact Fin.ext (Nat.mod_one _)
  | ⟨1, _⟩ => exact Fin.ext (Nat.mod_one _)
  | ⟨2, _⟩ => exact Fin.ext (Nat.mod_eq_of_lt d.isLt)
  | ⟨3, _⟩ => exact Fin.ext (Nat.mod_eq_of_lt r.isLt)

/-- The array at an index, from the point that writes it. -/
theorem array_at (n : ℕ) (hn : n < cfg0.N) (i : S4x4x128x2048.Idx) (hp : Cert.KernelIdeal.Value.pt15Of i = n) :
    Cert.KernelIdeal.Value.G15 m c i
      = written m c ⟨n, hn⟩ (ckAt m c ⟨n, hn⟩) (cvAt m c ⟨n, hn⟩) (Cert.KernelIdeal.Value.loc15Of i) := by
  subst hp
  unfold Cert.KernelIdeal.Value.G15
  rw [dif_pos hn, ← Cert.KernelIdeal.Value.outsAt0_sweep m c _ hn, carried]

/-- The kernel's array at an index. -/
theorem kernel_out (hA : Moderate (kargs m c)) (h qj : Fin 4) (d : Fin 128) (r : Fin 2048) :
    Cert.KernelIdeal.Value.G15 m c (ix4 h qj d r) = (kargs m c).out (tok qj r) (hd h r) d := by
  have hN : 4 * h.val + qj.val < cfg0.N := lt_of_lt_of_eq (by omega : 4 * h.val + qj.val < 16) N_0.symm
  have e1 : jOf ⟨4 * h.val + qj.val, hN⟩ = qj := Fin.ext (by show (4 * h.val + qj.val) % 4 = _; omega)
  have e2 : hOf ⟨4 * h.val + qj.val, hN⟩ = h := Fin.ext (by show (4 * h.val + qj.val) / 4 = _; omega)
  rw [array_at m c _ hN _ (point_at h qj d r), place_at, written_apply m c hA, e1, e2]

/-- The least product that the precondition admits. -/
theorem ofBits_least : Ideal.ofBits .f32 3288334336#32 = ((-512 : ℝ) : EReal) := by
  simp [Ideal.ofBits, Ideal.ieee, -EReal.coe_mul]; norm_num

/-- The precondition bounds the products of queries with their own tokens' keys. -/
theorem pre_apply (A : Args) (q : FVec Ideal Cert.Pre_own_scores_moderate.S1x2048x16x128 .f32)
    (k v : FVec Ideal Cert.Pre_own_scores_moderate.S1x2048x4x128 .f32) (wk wv pk pv gw)
    (hq : ∀ t g d, q (ix4 0 t g d) = A.q t g d) (hk : ∀ t h d, k (ix4 0 t h d) = A.k t h d)
    (hp : Cert.Pre_own_scores_moderate.fn (F := Ideal) q k v wk wv pk pv gw = fun _ => 1#1) : Moderate A := by
  intro t g
  have e : Cert.Pre_own_scores_moderate.fn (F := Ideal) q k v wk wv pk pv gw (ix3 0 t g)
      = BitVec.ofBool (decide (Ideal.ofBits FTy.f32 3288334336#32 ≤ A.prod t g t)) := by
    have es : ∑ x, q (ix4 0 t g x) * k (ix4 0 t (kv g) x) = A.prod t g t :=
      Finset.sum_congr rfl fun x _ => congrArg₂ (· * ·) (hq t g x) (hk t (kv g) x)
    rw [← es]
    unfold kv
    pointwise [Cert.Pre_own_scores_moderate.fn]
  have h := e.symm.trans (congrFun hp _)
  rw [ofBits_least] at h
  by_contra hn
  rw [decide_eq_false hn] at h
  exact absurd h (by decide)

/-- The precondition gives what the kernel's exponentials need. -/
theorem moderate_of_pre (h : Cert.Pre_KernelIdeal_own_scores_moderate m) : Moderate (kargs m c) :=
  pre_apply (kargs m c) _ _ _ _ _ _ _ _ (fun _ _ _ => rfl) (fun _ _ _ => rfl) (h c)

/-- The two sides read the same arguments. -/
theorem args_same (m' : (ℓ : Loc Cert.ReferenceIdeal.nD Cert.ReferenceIdeal.τ Cert.ReferenceIdeal.sig) → Buf (Elt Ideal) ℓ)
    (h0 : m' (c, Proc.devRef .tc Cert.ReferenceIdeal.main_arg0) = m (c, Proc.devRef .tc main_arg0))
    (h1 : m' (c, Proc.devRef .tc Cert.ReferenceIdeal.main_arg1) = m (c, Proc.devRef .tc main_arg1))
    (h2 : m' (c, Proc.devRef .tc Cert.ReferenceIdeal.main_arg2) = m (c, Proc.devRef .tc main_arg2))
    (h3 : m' (c, Proc.devRef .tc Cert.ReferenceIdeal.main_arg3) = m (c, Proc.devRef .tc main_arg3))
    (h4 : m' (c, Proc.devRef .tc Cert.ReferenceIdeal.main_arg4) = m (c, Proc.devRef .tc main_arg4))
    (h5 : m' (c, Proc.devRef .tc Cert.ReferenceIdeal.main_arg5) = m (c, Proc.devRef .tc main_arg5))
    (h6 : m' (c, Proc.devRef .tc Cert.ReferenceIdeal.main_arg6) = m (c, Proc.devRef .tc main_arg6))
    (h7 : m' (c, Proc.devRef .tc Cert.ReferenceIdeal.main_arg7) = m (c, Proc.devRef .tc main_arg7)) :
    rargs (StableHlo.launchContents m' c) = kargs m c := by
  have e : ∀ {q k v wk wv pk pv gw q' k' v' wk' wv' pk' pv' gw'}, q = q' → k = k' → v = v' → wk = wk' → wv = wv' → pk = pk' →
      pv = pv' → gw = gw' → Args.mk q k v wk wv pk pv gw = ⟨q', k', v', wk', wv', pk', pv', gw'⟩ := by
    rintro _ _ _ _ _ _ _ _ _ _ _ _ _ _ _ _ rfl rfl rfl rfl rfl rfl rfl rfl
    rfl
  exact e (funext fun t => funext fun g => funext fun d => congrFun h0 (ix4 0 t g d))
    (funext fun t => funext fun g => funext fun d => congrFun h1 (ix4 0 t g d))
    (funext fun t => funext fun g => funext fun d => congrFun h2 (ix4 0 t g d))
    (funext fun j => congrFun h3 (ix1 j)) (funext fun j => congrFun h4 (ix1 j))
    (funext fun j => funext fun d => congrFun h5 (ix2 j d)) (funext fun j => funext fun d => congrFun h6 (ix2 j d))
    (funext fun d => funext fun i => congrFun h7 (ix2 d i))

/-- From memories that agree on the arguments and satisfy the precondition, the kernel and the reference end with the
    same array. -/
theorem algebraic : Cert.algebraic_KernelIdeal_ReferenceIdeal_pre_own_scores_moderate (hKernelIdeal := Cert.KernelIdeal.Gen.facts)
    (hReferenceIdeal := Cert.ReferenceIdeal.Gen.facts) (hPre_own_scores_moderate := Cert.Pre_own_scores_moderate.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  have hA : Moderate (kargs m c) := moderate_of_pre m c hpre
  obtain ⟨h0, h1, h2, h3, h4, h5, h6, h7⟩ := hagree c
  have hs := args_same m c m' h0 h1 h2 h3 h4 h5 h6 h7
  refine (Cert.ReferenceIdeal.Value.val5_main_v205 (StableHlo.launchContents m' c)).symm.trans (funext fun i => ?_)
  obtain ⟨h, qj, d, r, rfl⟩ : ∃ (h qj : Fin 4) (d : Fin 128) (r : Fin 2048), i = ix4 h qj d r :=
    ⟨i 0, i 1, i 2, i 3, by funext k; fin_cases k <;> rfl⟩
  exact (ref_out _ h qj d r).trans ((congrArg (fun A => Args.out A (tok qj r) (hd h r) d) hs).trans
    (kernel_out m c hA h qj d r).symm)

end Cert.Proof
-- ==== Proof.lean ====
module

public import proofs.«01_k».proof.Defs
public import proofs.«01_k».proof.Proof.Frames
public import proofs.«01_k».proof.Proof.Equation
public import proofs.«01_k».proof.Proof.Gen.KernelIdeal.Value
public import proofs.«01_k».proof.Proof.Gen.Pre_own_scores_moderate
public import proofs.«01_k».proof.Proof.Gen.ReferenceIdeal.Run
public import Idealize.ShloMosaic.Adequacy
public import Idealize.ShloMosaic.Init

@[expose] public section

noncomputable section

open Idealize.ShloMosaic Idealize.SL.Sem

namespace Cert.Proof

/-- Everything the certificate claims. -/
theorem claim : Cert.Claim :=
  ⟨Cert.Kernel.Gen.facts, Cert.KernelIdeal.Gen.facts, Cert.ReferenceIdeal.Gen.facts, Cert.Pre_own_scores_moderate.Gen.facts,
    frame_kernel, frame_kernelIdeal, fun m ρ _ => Cert.KernelIdeal.Gen.frame m ρ, frame_referenceIdeal,
    frame_referenceIdeal_pre, preserves, algebraic⟩

end Cert.Proof

end
